-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v36) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x2048 : Shape := ⟨2, ![4096, 2048]⟩
abbrev S1 : Shape := ⟨1, ![1]⟩
abbrev S4096x512 : Shape := ⟨2, ![4096, 512]⟩
abbrev S2x4096x512 : Shape := ⟨3, ![2, 4096, 512]⟩
abbrev S3x1024x512 : Shape := ⟨3, ![3, 1024, 512]⟩
abbrev S3x1x512 : Shape := ⟨3, ![3, 1, 512]⟩
abbrev S2 : Shape := ⟨1, ![2]⟩
abbrev S3 : Shape := ⟨1, ![3]⟩
abbrev S_ : Shape := ⟨0, ![]⟩
abbrev S1x4096x512 : Shape := ⟨3, ![1, 4096, 512]⟩
abbrev S1024x512 : Shape := ⟨2, ![1024, 512]⟩
abbrev S512 : Shape := ⟨1, ![512]⟩
abbrev S1x512 : Shape := ⟨2, ![1, 512]⟩
abbrev S1x1024x512 : Shape := ⟨3, ![1, 1024, 512]⟩
abbrev S1x1x512 : Shape := ⟨3, ![1, 1, 512]⟩

abbrev nBuf : Space → Nat
  | .hbm => 5
  | .vmem => 7
  | .smem => 2
  | _ => 0

abbrev bufTy : (tb : Table) → Fin (tcTables nBuf tb) → BufTy
  | .hbm, ⟨0, _⟩ => ⟨S1024x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x512, .f32⟩
  | .local _ .vmem, ⟨0, _⟩ => ⟨S1024x4096, .f32⟩
  | .local _ .vmem, ⟨1, _⟩ => ⟨S4096x512, .f32⟩
  | .local _ .vmem, ⟨2, _⟩ => ⟨S2x4096x512, .f32⟩
  | .local _ .vmem, ⟨3, _⟩ => ⟨S3x1024x512, .i8⟩
  | .local _ .vmem, ⟨4, _⟩ => ⟨S3x1024x512, .i8⟩
  | .local _ .vmem, ⟨5, _⟩ => ⟨S3x1x512, .f32⟩
  | .local _ .vmem, ⟨6, _⟩ => ⟨S3x1x512, .f32⟩
  | .local _ .smem, ⟨0, _⟩ => ⟨S1, .f32⟩
  | .local _ .smem, ⟨1, _⟩ => ⟨S1, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) : Fin 2 → Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v6 : BitVec 32 := Scalar.addi v2 c1_i32_1
  let v7 : BitVec 32 := Scalar.addi v6 c0_i32
  let c4_i32_2 : BitVec 32 := 4#32
  let v8 : BitVec 32 := Scalar.remsi v7 c4_i32_2
  let c512_i32 : BitVec 32 := 512#32
  let v9 : BitVec 32 := Scalar.muli v8 c512_i32
  ![0, v9.toNat]
def k0_dev1 (d0 : Dev nD) : Nat :=
  let c0_i32_12 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v16 : BitVec 32 := Scalar.addi v2 c1_i32_8
  let c4_i32_9 : BitVec 32 := 4#32
  let v17 : BitVec 32 := Scalar.remsi v16 c4_i32_9
  let c1_i32_11 : BitVec 32 := 1#32
  let v18 : BitVec 32 := Scalar.muli v17 c1_i32_11
  let v19 : BitVec 32 := Scalar.addi c0_i32_12 v18
  v19.toNat
def k0_dev2 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v20 : BitVec 32 := Scalar.addi v2 c2_i32
  let c4_i32_13 : BitVec 32 := 4#32
  let v21 : BitVec 32 := Scalar.remsi v20 c4_i32_13
  let c1_i32_15 : BitVec 32 := 1#32
  let v22 : BitVec 32 := Scalar.muli v21 c1_i32_15
  let v23 : BitVec 32 := Scalar.addi c0_i32_16 v22
  v23.toNat
def k0_dev3 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v24 : BitVec 32 := Scalar.addi v2 c3_i32
  let c4_i32_17 : BitVec 32 := 4#32
  let v25 : BitVec 32 := Scalar.remsi v24 c4_i32_17
  let c1_i32_19 : BitVec 32 := 1#32
  let v26 : BitVec 32 := Scalar.muli v25 c1_i32_19
  let v27 : BitVec 32 := Scalar.addi c0_i32_20 v26
  v27.toNat
def k0_dev4 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_22 : BitVec 32 := 1#32
  let v28 : BitVec 32 := Scalar.addi v2 c1_i32_22
  let c0_i32_23 : BitVec 32 := 0#32
  let v29 : BitVec 32 := Scalar.addi v28 c0_i32_23
  let c4_i32_24 : BitVec 32 := 4#32
  let v30 : BitVec 32 := Scalar.remsi v29 c4_i32_24
  let c1_i32_62 : BitVec 32 := 1#32
  let v74 : BitVec 32 := Scalar.muli v30 c1_i32_62
  let v75 : BitVec 32 := Scalar.addi c0_i32_63 v74
  v75.toNat
def k0_dev5 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_22 : BitVec 32 := 1#32
  let v28 : BitVec 32 := Scalar.addi v2 c1_i32_22
  let c0_i32_23 : BitVec 32 := 0#32
  let v29 : BitVec 32 := Scalar.addi v28 c0_i32_23
  let c4_i32_24 : BitVec 32 := 4#32
  let v30 : BitVec 32 := Scalar.remsi v29 c4_i32_24
  let c1_i32_72 : BitVec 32 := 1#32
  let v84 : BitVec 32 := Scalar.muli v30 c1_i32_72
  let v85 : BitVec 32 := Scalar.addi c0_i32_73 v84
  v85.toNat
def k0_dev6 (d0 : Dev nD) : Nat :=
  let c0_i32_119 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_78 : BitVec 32 := 1#32
  let v94 : BitVec 32 := Scalar.addi v2 c1_i32_78
  let c1_i32_79 : BitVec 32 := 1#32
  let v95 : BitVec 32 := Scalar.addi v94 c1_i32_79
  let c4_i32_80 : BitVec 32 := 4#32
  let v96 : BitVec 32 := Scalar.remsi v95 c4_i32_80
  let c1_i32_118 : BitVec 32 := 1#32
  let v140 : BitVec 32 := Scalar.muli v96 c1_i32_118
  let v141 : BitVec 32 := Scalar.addi c0_i32_119 v140
  v141.toNat
def k0_dev7 (d0 : Dev nD) : Nat :=
  let c0_i32_129 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_78 : BitVec 32 := 1#32
  let v94 : BitVec 32 := Scalar.addi v2 c1_i32_78
  let c1_i32_79 : BitVec 32 := 1#32
  let v95 : BitVec 32 := Scalar.addi v94 c1_i32_79
  let c4_i32_80 : BitVec 32 := 4#32
  let v96 : BitVec 32 := Scalar.remsi v95 c4_i32_80
  let c1_i32_128 : BitVec 32 := 1#32
  let v150 : BitVec 32 := Scalar.muli v96 c1_i32_128
  let v151 : BitVec 32 := Scalar.addi c0_i32_129 v150
  v151.toNat
def k0_dev8 (d0 : Dev nD) : Nat :=
  let c0_i32_175 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_134 : BitVec 32 := 1#32
  let v160 : BitVec 32 := Scalar.addi v2 c1_i32_134
  let c2_i32_135 : BitVec 32 := 2#32
  let v161 : BitVec 32 := Scalar.addi v160 c2_i32_135
  let c4_i32_136 : BitVec 32 := 4#32
  let v162 : BitVec 32 := Scalar.remsi v161 c4_i32_136
  let c1_i32_174 : BitVec 32 := 1#32
  let v206 : BitVec 32 := Scalar.muli v162 c1_i32_174
  let v207 : BitVec 32 := Scalar.addi c0_i32_175 v206
  v207.toNat
def k0_dev9 (d0 : Dev nD) : Nat :=
  let c0_i32_185 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_134 : BitVec 32 := 1#32
  let v160 : BitVec 32 := Scalar.addi v2 c1_i32_134
  let c2_i32_135 : BitVec 32 := 2#32
  let v161 : BitVec 32 := Scalar.addi v160 c2_i32_135
  let c4_i32_136 : BitVec 32 := 4#32
  let v162 : BitVec 32 := Scalar.remsi v161 c4_i32_136
  let c1_i32_184 : BitVec 32 := 1#32
  let v216 : BitVec 32 := Scalar.muli v162 c1_i32_184
  let v217 : BitVec 32 := Scalar.addi c0_i32_185 v216
  v217.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v244 : BitVec 32 := Scalar.muli v2 c1024_i32
  let v245 : Index := Scalar.indexCast v244
  let c0_206 : Index := 0#32
  ![v245.toNat, 0]
def k0_off3 (d0 : Dev nD) (c0_i32_228 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_227 : BitVec 32 := 3#32
  let v263 : BitVec 32 := Scalar.addi v2 c3_i32_227
  let v264 : BitVec 32 := Scalar.subi v263 c0_i32_228
  let c4_i32_229 : BitVec 32 := 4#32
  let v265 : BitVec 32 := Scalar.remsi v264 c4_i32_229
  let c1024_i32_237 : BitVec 32 := 1024#32
  let v275 : BitVec 32 := Scalar.muli v265 c1024_i32_237
  let v276 : Index := Scalar.indexCast v275
  let c0_238 : Index := 0#32
  ![v276.toNat, 0]
abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S_ : Shape := ⟨0, ![]⟩
abbrev S4x1024x4x512 : Shape := ⟨4, ![4, 1024, 4, 512]⟩
abbrev S4x4x512 : Shape := ⟨3, ![4, 4, 512]⟩
abbrev S4x1x4x512 : Shape := ⟨4, ![4, 1, 4, 512]⟩

abbrev nBuf : Space → Nat
  | .hbm => 48
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4096x2048, .f32⟩
  | .hbm, ⟨8, _⟩ => ⟨S4x1024x4x512, .f32⟩
  | .hbm, ⟨9, _⟩ => ⟨S4x1024x4x512, .f32⟩
  | .hbm, ⟨10, _⟩ => ⟨S_, .f32⟩
  | .hbm, ⟨11, _⟩ => ⟨S4x4x512, .f32⟩
  | .hbm, ⟨12, _⟩ => ⟨S4x1x4x512, .f32⟩
  | .hbm, ⟨13, _⟩ => ⟨S_, .f32⟩
  | .hbm, ⟨14, _⟩ => ⟨S4x1x4x512, .f32⟩
  | .hbm, ⟨15, _⟩ => ⟨S4x1x4x512, .f32⟩
  | .hbm, ⟨16, _⟩ => ⟨S_, .f32⟩
  | .hbm, ⟨17, _⟩ => ⟨S4x1x4x512, .f32⟩
  | .hbm, ⟨18, _⟩ => ⟨S4x1x4x512, .f32⟩
  | .hbm, ⟨19, _⟩ => ⟨S4x1024x4x512, .f32⟩
  | .hbm, ⟨20, _⟩ => ⟨S4x1024x4x512, .f32⟩
  | .hbm, ⟨21, _⟩ => ⟨S4x1024x4x512, .f32⟩
  | .hbm, ⟨22, _⟩ => ⟨S_, .f32⟩
  | .hbm, ⟨23, _⟩ => ⟨S4x1024x4x512, .f32⟩
  | .hbm, ⟨24, _⟩ => ⟨S4x1024x4x512, .f32⟩
  | .hbm, ⟨25, _⟩ => ⟨S_, .f32⟩
  | .hbm, ⟨26, _⟩ => ⟨S4x1024x4x512, .f32⟩
  | .hbm, ⟨27, _⟩ => ⟨S4x1024x4x512, .f32⟩
  | .hbm, ⟨28, _⟩ => ⟨S4x1024x4x512, .i32⟩
  | .hbm, ⟨29, _⟩ => ⟨S4x1024x4x512, .i8⟩
  | .hbm, ⟨30, _⟩ => ⟨S4x1024x4x512, .i32⟩
  | .hbm, ⟨31, _⟩ => ⟨S4x1024x4x512, .f32⟩
  | .hbm, ⟨32, _⟩ => ⟨S_, .f32⟩
  | .hbm, ⟨33, _⟩ => ⟨S_, .f32⟩
  | .hbm, ⟨34, _⟩ => ⟨S4x1x4x512, .f32⟩
  | .hbm, ⟨35, _⟩ => ⟨S4x1x4x512, .f32⟩
  | .hbm, ⟨36, _⟩ => ⟨S4x1024x4x512, .f32⟩
  | .hbm, ⟨37, _⟩ => ⟨S4x1024x4x512, .f32⟩
  | .hbm, ⟨38, _⟩ => ⟨S4x1024x4x512, .i32⟩
  | .hbm, ⟨39, _⟩ => ⟨S4x1024x4x512, .i32⟩
  | .hbm, ⟨40, _⟩ => ⟨S4x1024x4x512, .i1⟩
  | .hbm, ⟨41, _⟩ => ⟨S4x1024x4x512, .f32⟩
  | .hbm, ⟨42, _⟩ => ⟨S4x1024x4x512, .f32⟩
  | .hbm, ⟨43, _⟩ => ⟨S4x1024x4x512, .f32⟩
  | .hbm, ⟨44, _⟩ => ⟨S_, .f32⟩
  | .hbm, ⟨45, _⟩ => ⟨S4x1024x4x512, .f32⟩
  | .hbm, ⟨46, _⟩ => ⟨S4x1024x4x512, .f32⟩
  | .hbm, ⟨47, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Proof.RefRun.lean ====
module
public import proofs.«01_k».proof.Proof.Gen.ReferenceIdeal.Run
-- ==== Proof.Slots.lean ====
/-
# Slots of a buffer

The kernel cuts each of its scratch buffers into slots along the first axis. Its transfers and
accesses go through one slot at a time, so the proof owns slots rather than buffers. This module
says how a slot is owned, how a load, a store and a squeezed spelling of the slot meet that
ownership, and how a whole buffer is cut into its slots and put together again.
-/
module

public import Idealize.ShloMosaic.Lib.Pipeline.Launch
public import Idealize.ShloMosaic.Lib.Pipeline.Kit
public import Idealize.ShloMosaic.Lib.Transfers
public import Idealize.ShloMosaic.Lib.Tactic
public import Idealize.ShloMosaic.Lib.Pipeline.Value

@[expose] public section

noncomputable section

namespace Cert.Slots

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type}
variable {Name : Type} [DecidableEq Name] {U : Type} [URA U] {Lvl : Type}

local notation "𝕄" => MT nD τ sig Ix Val Name U Lvl

section Owning

variable (c : Thread nD τ) {sp : Space} {s s' : Shape} {e : EltTy}

/-- The elements a memref places, owned outright at contents nobody has named. -/
def free (m : Memref sig c.2.kind sp s e) : sProp 𝕄 :=
  iprop(∃ f, m.view.loc c ↦[m.view.set]{fullShare} f)

instance free_storable (m : Memref sig c.2.kind sp s e) : BI.Storable (upEmb : UEmb _ 𝕄) (free c m) := by
  unfold free; infer_instance

/-- Contents may be forgotten, -/
theorem owns_free (m : Memref sig c.2.kind sp s e) (X : s.Idx → Val e) :
    (owns c m fullShare X : sProp 𝕄) ⊢ free c m := by
  unfold owns free
  iintro ⟨%f, -, H⟩
  iexists f
  iexact H

/-- and whatever is there may be given a name. -/
theorem free_owns (m : Memref sig c.2.kind sp s e) :
    (free c m : sProp 𝕄) ⊢ iprop(∃ X, owns c m fullShare X) := by
  unfold free
  iintro ⟨%f, H⟩
  iexists (m.view.read Val f)
  iapply (owns_intro c m fullShare f)
  iexact H

/-- A squeezed memref places the same elements; what it reads is the same vector, re-shaped. -/
theorem owns_squeeze (m : Memref sig c.2.kind sp s e) (h : s.Squeezes s') (hc : s.ShapeCasts s')
    (q : PosShare TreeShare) (X : s.Idx → Val e) :
    (owns c (m.squeeze s' h) q (shapeCast s' X hc) : sProp 𝕄) = owns c m q X := by
  have hset : (m.squeeze s' h).view.set = m.view.set := View.set_reshape _ _
  have hread (f : m.view.ty.Contents Val) :
      (m.squeeze s' h).view.read Val f = shapeCast s' (m.view.read Val f) hc := rfl
  have hinj (Y Z : s.Idx → Val e) : shapeCast s' Y hc = shapeCast s' Z hc ↔ Y = Z := by
    constructor
    · intro hYZ
      have h1 := congrArg (fun w : s'.Idx → Val e => shapeCast s w hc.symm) hYZ
      simpa only [shapeCast_shapeCast, shapeCast_self] using h1
    · rintro rfl; rfl
  unfold owns
  simp only [hread, hinj]
  rw [hset]

/-- Likewise at contents nobody has named. -/
theorem free_squeeze (m : Memref sig c.2.kind sp s e) (h : s.Squeezes s') :
    (free c (m.squeeze s' h) : sProp 𝕄) = free c m := by
  have hset : (m.squeeze s' h).view.set = m.view.set := View.set_reshape _ _
  unfold free
  rw [hset]

end Owning

section Steps

variable [Preorder Lvl] {Λ : Labels} {defs : Defs nD τ sig Val Λ} (𝒱 : Variants) (c : Thread nD τ) (bd : Option 𝒱.V)
variable {α : Type} {Q : α → sProp (MT nD τ sig Ix Val Name U Lvl)} {cs : CoreSpace} {s : Shape} {e : EltTy}

/-- A load through a rectangle of a memref, the slot it names in hand at `X`: it returns `X`. -/
theorem wp_load_slot {m : Memref sig c.2.kind cs s e} {r : Rect s} {hr : ∀ a, r.stride a = 1}
    {hl : m.view.LoadsAt r.toLoadRect} {k : (r.shape.Idx → Val e) → Prog (TpuEff nD τ sig Val Λ c.2) α}
    {q : PosShare TreeShare} {X : r.shape.Idx → Val e} :
    (owns c (m.slice r hr) q X : sProp 𝕄)
      ⊢ iprop((owns c (m.slice r hr) q X -∗ wp frame (wpE defs 𝒱 c bd) Set.univ (k X) Q)
          -∗ wp frame (wpE defs 𝒱 c bd) Set.univ (.op (.load m r.toLoadRect hl) k) Q) := by
  unfold owns
  iintro ⟨%f, %hf, H⟩ Hk
  subst hf
  iapply (wp_load_rect 𝒱 c bd Set.univ (m := m) (r := r) (S := (m.slice r hr).view.set) (Finset.Subset.refl _)) $$ H
  iintro H
  iapply Hk
  iexists f
  isplitr; · ipureintro; rfl
  iexact H

/-- A store through a rectangle of a memref, the slot it names in hand: it then holds what was stored. -/
theorem wp_store_slot {m : Memref sig c.2.kind cs s e} {r : Rect s} {hr : ∀ a, r.stride a = 1} {w : r.shape.Idx → Val e}
    {hx : (m.access r).Stores Finset.univ} {hm} {k : PUnit → Prog (TpuEff nD τ sig Val Λ c.2) α} {X : r.shape.Idx → Val e} :
    (owns c (m.slice r hr) fullShare X : sProp 𝕄)
      ⊢ iprop((owns c (m.slice r hr) fullShare w -∗ wp frame (wpE defs 𝒱 c bd) Set.univ (k ⟨⟩) Q)
          -∗ wp frame (wpE defs 𝒱 c bd) Set.univ (.op (.store m r w Finset.univ hx hm) k) Q) := by
  unfold owns
  iintro ⟨%f, -, H⟩ Hk
  iapply (wp_store 𝒱 c bd Set.univ (m := m) (r := r) (Mk := Finset.univ) (S := (m.slice r hr).view.set) (Finset.Subset.refl _)) $$ H
  iintro H
  iapply Hk
  iexists ((m.access r).write Val f w Finset.univ)
  isplitr; · ipureintro; exact View.read_write_univ f w
  iexact H

end Steps

section Cutting

variable (c : Thread nD τ) (b : Ref sig c.2.kind) {T : Type} [Fintype T] [DecidableEq T]
variable (r : T → Rect b.ty.shape) (hr : ∀ t a, (r t).stride a = 1)
  (hd : ∀ t t', t ≠ t' → Disjoint (r t).set (r t').set)
  (hcov : (Finset.univ : Finset T).biUnion (fun t => (r t).set) = Finset.univ)
include hd hcov

omit [DecidableEq T] in
/-- A whole buffer is its slots, -/
theorem cut (f : b.ty.Contents Val) :
    ((c.loc b) ↦{fullShare} f : sProp 𝕄)
      ⊢ bigSep Finset.univ fun t => free c ((Memref.whole b).slice (r t) (hr t)) := by
  have h := pointsTo_rects (Ix := Ix) (Name := Name) (U := U) (Lvl := Lvl) c (Memref.whole b) fullShare r hr hd hcov f
  rw [show ((c.loc b) ↦{fullShare} f : sProp 𝕄)
      = ((Memref.whole b).view.loc c ↦[(Memref.whole b).view.set]{fullShare} f) by
        rw [show (Memref.whole b).view.set = Finset.univ from View.set_whole b]]
  rw [h]
  exact bigSep_mono fun t _ => owns_free c _ _

/-- and its slots make a whole buffer again. -/
theorem uncut [∀ e, Nonempty (Val e)] :
    (bigSep Finset.univ fun t => free c ((Memref.whole b).slice (r t) (hr t)) : sProp 𝕄)
      ⊢ iprop(∃ f : Buf Val (c.loc b), (c.loc b) ↦{fullShare} f) := by
  unfold free
  refine (bigSep_exists_pi Finset.univ _).trans ?_
  iintro ⟨%fs, H⟩
  have hset : ∀ t, ((Memref.whole b).slice (r t) (hr t)).view.set = (r t).set := fun t => View.set_slice_whole b (r t)
  ihave H' := (show bigSep Finset.univ (fun t => (((Memref.whole b).slice (r t) (hr t)).view.loc c
        ↦[((Memref.whole b).slice (r t) (hr t)).view.set]{fullShare} fs t : sProp 𝕄))
      ⊢ bigSep Finset.univ (fun t => ((c.loc b) ↦[(r t).set]{fullShare} fs t : sProp 𝕄)) from
    bigSep_mono fun t _ => by rw [hset t]; exact BI.Entails.refl _) $$ H
  ihave HJ := (pointsTo_biUnion_join (ℓ := c.loc b) Finset.univ (fun t => (r t).set) fs (fun _ => Classical.arbitrary _)
    (fun t _ t' _ h => hd t t' h)) $$ H'
  icases HJ with ⟨%g, -, HJ⟩
  iexists g
  rw [hcov]
  iexact HJ

end Cutting

end Cert.Slots

end
-- ==== Proof.Protocol.lean ====
/-
# The protocol of the exchange

Four devices. Device `c` multiplies its 1024 rows of `x` with each of the four column blocks of `w`.
The block that belongs to the device `t + 1` places ahead is quantised at step `t` (`t = 0, 1, 2`)
and sent there with one row of scales; the device's own block is computed last and stays.

Per device there are thirteen cells that take part, each used for one round:

* the runtime's barrier cell: the three peers signal it once each, the device waits for three. The
  signal that device `c` sends `t + 1` places ahead hands over the two landing slots of `c` that the
  receiver of the signal will write, with the fact that `c` is at round 0 of their two cells;
* per step `t`, the send cells of the product and of the scale row: the device's own transfers raise
  them and it waits for them at the end. Each hands the slot that was sent back to the device;
* per step `t`, the receive cells of the product and of the scale row: the device `t + 1` places
  behind raises them by its transfers. Each hands over the landing slot with what was sent.

No device waits while it owes a cell of the level of the one it waits for or a lower one: staging,
weight and send cells are at level 0, barrier cells at 1, receive cells at 2.
-/
module

public import proofs.«01_k».proof.Proof.Slots
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Exchange

open Cert.KernelIdeal Cert.KernelIdeal.Gen Cert.Slots
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra: the pipeline's rounds, the exchange's rounds, the counters of local transfers -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

variable (m : (ℓ : Loc nD τ sig) → Buf (Elt F) ℓ) (ρ : Dev nD → PrngReg)

/-! ## Who is who -/

set_option backward.proofsInPublic true in
/-- The device `t + 1` places ahead: the one step `t` of device `c` goes to. -/
def ahead (t : Fin 3) (c : Dev nD) : Dev nD := ⟨(c.val + (t.val + 1)) % 4, Nat.mod_lt _ (by decide)⟩
set_option backward.proofsInPublic true in
/-- The device `t + 1` places behind: the one step `t` arrives from. -/
def behind (t : Fin 3) (c : Dev nD) : Dev nD := ⟨(c.val + (3 - t.val)) % 4, Nat.mod_lt _ (by decide)⟩

theorem behind_ahead (t : Fin 3) (c : Dev nD) : behind t (ahead t c) = c := by revert t c; decide
theorem ahead_behind (t : Fin 3) (c : Dev nD) : ahead t (behind t c) = c := by revert t c; decide
/-- Going `t + 1` places ahead and then `3 - t` more is going round. -/
theorem ahead_rev (t : Fin 3) (c : Dev nD) : ahead t.rev (ahead t c) = c := by revert t c; decide

/-! ## The memrefs -/

abbrev xM : Memref sig .tc .vmem S1024x4096 .f32 := Memref.whole cc0_stg0_0
abbrev wM : Memref sig .tc .hbm S4096x2048 .f32 := Memref.whole main_arg1
abbrev aM : Memref sig .tc .smem S1 .f32 := Memref.whole cc0_stg1_0
abbrev bM : Memref sig .tc .smem S1 .f32 := Memref.whole cc0_stg2_0
abbrev oM : Memref sig .tc .vmem S4096x512 .f32 := Memref.whole cc0_stg3_0
abbrev wfM : Memref sig .tc .vmem S2x4096x512 .f32 := Memref.whole cc0_scratch0
abbrev qsM : Memref sig .tc .vmem S3x1024x512 .i8 := Memref.whole cc0_scratch1
abbrev qrM : Memref sig .tc .vmem S3x1024x512 .i8 := Memref.whole cc0_scratch2
abbrev ssM : Memref sig .tc .vmem S3x1x512 .f32 := Memref.whole cc0_scratch3
abbrev srM : Memref sig .tc .vmem S3x1x512 .f32 := Memref.whole cc0_scratch4

theorem q_inb (t : Fin 3) : ∀ a, (![t.val, 0, 0] : Fin 3 → ℕ) a + S1x1024x512.size a ≤ S3x1024x512.size a := by revert t; decide
theorem s_inb (t : Fin 3) : ∀ a, (![t.val, 0, 0] : Fin 3 → ℕ) a + S1x1x512.size a ≤ S3x1x512.size a := by revert t; decide
theorem w_inb (k : Fin 2) : ∀ a, (![k.val, 0, 0] : Fin 3 → ℕ) a + S1x4096x512.size a ≤ S2x4096x512.size a := by revert k; decide

/-- Slot `t` of a buffer of products, of a buffer of scale rows, and slot `k` of the weight buffer. -/
abbrev qRect (t : Fin 3) : Rect S3x1024x512 := Rect.unit (s := S3x1024x512) ![t.val, 0, 0] S1x1024x512.size (q_inb t)
abbrev sRect (t : Fin 3) : Rect S3x1x512 := Rect.unit (s := S3x1x512) ![t.val, 0, 0] S1x1x512.size (s_inb t)
abbrev wRect (k : Fin 2) : Rect S2x4096x512 := Rect.unit (s := S2x4096x512) ![k.val, 0, 0] S1x4096x512.size (w_inb k)

abbrev qsSlot (t : Fin 3) : Memref sig .tc .vmem S1x1024x512 .i8 := qsM.slice (qRect t) (fun _ => rfl)
abbrev qrSlot (t : Fin 3) : Memref sig .tc .vmem S1x1024x512 .i8 := qrM.slice (qRect t) (fun _ => rfl)
abbrev ssSlot (t : Fin 3) : Memref sig .tc .vmem S1x1x512 .f32 := ssM.slice (sRect t) (fun _ => rfl)
abbrev srSlot (t : Fin 3) : Memref sig .tc .vmem S1x1x512 .f32 := srM.slice (sRect t) (fun _ => rfl)
abbrev wfSlot (k : Fin 2) : Memref sig .tc .vmem S1x4096x512 .f32 := wfM.slice (wRect k) (fun _ => rfl)

/-- The column block of `w` that step `r` of device `c` reads (`r = 3`: the device's own). -/
abbrev wCols (c : Dev nD) (r : Fin 4) : Memref sig .tc .hbm S4096x512 .f32 :=
  wM.slice (Rect.unit (s := S4096x2048) (k0_off1 c (BitVec.ofNat 32 r.val)) S4096x512.size (k0_off1_inb c r)) (fun _ => rfl)

/-! ## The cells -/

abbrev barS : Sem sig := (SemArray.scalar (sig.barrier 0 rfl) : Sems sig S_).sem

set_option backward.proofsInPublic true in
/-- The semaphores of the transfers between devices: kinds `0, 1` the send cells of products and of
    scale rows, kinds `2, 3` their receive cells; one per step. -/
def xsem (k : Fin 4) (t : Fin 3) : DmaSem sig := ⟨6 + 3 * k.val + t.val, by
  have := k.isLt; have := t.isLt; show 6 + 3 * k.val + t.val < 18; omega⟩

set_option backward.proofsInPublic true in
/-- The semaphores of the two local transfers of weights. -/
def wsem (k : Fin 2) : DmaSem sig := ⟨4 + k.val, by have := k.isLt; show 4 + k.val < 18; omega⟩

/-- A device's thirteen cells: the barrier's, and one per kind and step. -/
abbrev Cell : Type := Option (Fin 4 × Fin 3)
def csem : Cell → SemLoc sig
  | none => .reg barS
  | some (k, t) => .dma (xsem k t)

abbrev barCell (c : Dev nD) : GSem nD τ sig := ((c : Thread nD τ), .reg barS)
abbrev xCell (k : Fin 4) (t : Fin 3) (c : Dev nD) : GSem nD τ sig := ((c : Thread nD τ), .dma (xsem k t))
abbrev kcell (ck : Dev nD × Cell) : GSem nD τ sig := ((ck.1 : Thread nD τ), csem ck.2)

theorem xsem_inj {k k' : Fin 4} {t t' : Fin 3} (h : xsem k t = xsem k' t') : k = k' ∧ t = t' := by
  have h' : 6 + 3 * k.val + t.val = 6 + 3 * k'.val + t'.val := congrArg Fin.val h
  have := t.isLt; have := t'.isLt
  exact ⟨Fin.ext (by omega), Fin.ext (by omega)⟩

theorem csem_inj : Function.Injective csem := by
  rintro (_ | ⟨k, t⟩) (_ | ⟨k', t'⟩) h
  · rfl
  · cases h
  · cases h
  · obtain ⟨rfl, rfl⟩ := xsem_inj (SemLoc.dma.inj h)
    rfl

/-! ## What a transfer adds to its cells -/

abbrev Nq : ℕ := ((qrSlot 0).squeeze S1024x512 squeezes_S1x1024x512_S1024x512).view.dmaCredit
abbrev Ns : ℕ := ((srSlot 0).squeeze S1x512 squeezes_S1x1x512_S1x512).view.dmaCredit
abbrev Nw : ℕ := ((wfSlot 0).squeeze S4096x512 squeezes_S1x4096x512_S4096x512).view.dmaCredit
theorem Nq_pos : 0 < Nq := View.dmaCredit_pos _ (by decide)
theorem Ns_pos : 0 < Ns := View.dmaCredit_pos _ (by decide)
theorem Nw_pos : 0 < Nw := View.dmaCredit_pos _ (by decide)

/-- A product's credit for the kinds `0` and `2`, a scale row's for `1` and `3`. -/
def xamt (k : Fin 4) : ℕ := if k.val % 2 = 0 then Nq else Ns
theorem xamt_pos (k : Fin 4) : 0 < xamt k := by unfold xamt; split; exacts [Nq_pos, Ns_pos]

/-! ## Contents -/

/-- The memory at launch: arbitrary contents, every semaphore at zero, arbitrary generator registers. -/
def s₀ : MemSt nD τ sig (Elt F) := ⟨m, fun _ => 0, ρ⟩

/-- The device's rows of `x` and the two scales, as the pipeline stages them. -/
def xIn (c : Dev nD) : (cc0_stg0_0 : Ref sig .tc).ty.Contents (Elt F) :=
  (win0_0.blk (0 : Fin 1)).view.read (Elt F) ((s₀ m ρ).mem ((c : Thread nD τ).loc main_arg0))
def aIn (c : Dev nD) : (cc0_stg1_0 : Ref sig .tc).ty.Contents (Elt F) :=
  (win0_1.blk (0 : Fin 1)).view.read (Elt F) ((s₀ m ρ).mem ((c : Thread nD τ).loc main_arg2))
def bIn (c : Dev nD) : (cc0_stg2_0 : Ref sig .tc).ty.Contents (Elt F) :=
  (win0_2.blk (0 : Fin 1)).view.read (Elt F) ((s₀ m ρ).mem ((c : Thread nD τ).loc main_arg3))

set_option backward.proofsInPublic true in
/-- The one index of an array of one element. -/
def first : S1.Idx := fun a => ⟨0, by revert a; decide⟩

/-- The product of the two scales. -/
def scale (c : Dev nD) : F .f32 := k0_pay1 (F := F) (aIn m ρ c first) (bIn m ρ c first)

theorem casts_w : S4096x512.ShapeCasts S1x4096x512 := by decide
theorem casts_w' : S1x4096x512.ShapeCasts S4096x512 := by decide

/-- The column block of `w` of step `r`, as a weight slot holds it. -/
def wIn (c : Dev nD) (r : Fin 4) : S1x4096x512.Idx → Elt F .f32 :=
  shapeCast S1x4096x512 ((wCols c r).view.read (Elt F) ((s₀ m ρ).mem ((c : Thread nD τ).loc main_arg1))) casts_w

/-- What step `t` of device `c` sends: the quantised product and its row of scales. -/
def qOut (c : Dev nD) (t : Fin 3) : S1x1024x512.Idx → Elt F .i8 := k0_pay9 (xIn m ρ c) (wIn m ρ c t.castSucc)
def sOut (c : Dev nD) (t : Fin 3) : S1x1x512.Idx → Elt F .f32 := k0_pay10 (scale m ρ c) (xIn m ρ c) (wIn m ρ c t.castSucc)

/-- The block of the result that device `c` computes itself, and the one it makes of what step `t` brought. -/
def ownPart (c : Dev nD) : FVec F S1024x512 .f32 :=
  k0_pay17 (scale m ρ c) (k0_pay15 (xIn m ρ c)) (k0_pay16 (wIn m ρ c 3)) (constant S1024x512 .f32 0x00000000#32)
def gotPart (c : Dev nD) (t : Fin 3) : FVec F S1024x512 .f32 :=
  k0_pay18 (qOut m ρ (behind t c) t) (sOut m ρ (behind t c) t)

/-! ## The schedule -/

/-- What the signal from the device `t + 1` places ahead of `c` hands to `c`: that device's landing
    slots for step `t`, and that it is at round 0 of their cells. -/
def barPay (c : Dev nD) (t : Fin 3) : sProp 𝕄 :=
  iprop(free ((ahead t c : Dev nD) : Thread nD τ) (qrSlot t) ∗ free ((ahead t c : Dev nD) : Thread nD τ) (srSlot t)
    ∗ reached ER (xCell 2 t (ahead t c)) 0 ∗ reached ER (xCell 3 t (ahead t c)) 0)

/-- What a transfer's cell hands over at its round's end: on the send side the slot that was sent, on
    the receive side the landing slot with what the device behind sent. -/
def xPay (k : Fin 4) (t : Fin 3) (c : Dev nD) : sProp 𝕄 :=
  match k with
  | 0 => owns (c : Thread nD τ) (qsSlot t) fullShare (qOut m ρ c t)
  | 1 => owns (c : Thread nD τ) (ssSlot t) fullShare (sOut m ρ c t)
  | 2 => owns (c : Thread nD τ) (qrSlot t) fullShare (qOut m ρ (behind t c) t)
  | 3 => owns (c : Thread nD τ) (srSlot t) fullShare (sOut m ρ (behind t c) t)

/-- Which of a device's cells a semaphore location is. -/
def cellAt (sm : SemLoc sig) : Option Cell := (Finset.univ.toList).find? fun k => csem k = sm

theorem cellAt_csem (k : Cell) : cellAt (csem k) = some k := by
  unfold cellAt
  have h : ((Finset.univ : Finset Cell).toList.find? fun k' => decide (csem k' = csem k)).isSome := by
    rw [List.find?_isSome]; exact ⟨k, Finset.mem_toList.mpr (Finset.mem_univ k), decide_eq_true rfl⟩
  obtain ⟨k', hk'⟩ := Option.isSome_iff_exists.mp h
  rw [hk']
  have h' := List.find?_some hk'
  exact congrArg some (csem_inj (of_decide_eq_true h'))

/-- One round per cell: the barrier's with one duty of one unit per peer, a transfer's with the one
    duty `0` of the transfer's credit. -/
def xRd : Rounds.Schedule (GSem nD τ sig) (Fin 3) 𝕄 where
  duties g r := if r = 0 ∧ g.1.2 = .tc then
      (match cellAt g.2 with | some none => Finset.univ | some (some _) => {0} | none => ∅) else ∅
  unitless _ := False
  amount g _ _ := match cellAt g.2 with | some (some kt) => xamt kt.1 | _ => 1
  payload g _ d := match cellAt g.2 with
    | some none => barPay g.1.1 d
    | some (some kt) => xPay m ρ kt.1 kt.2 g.1.1
    | none => iprop(emp)
  amount_pos g _ _ _ := by
    split
    · exact xamt_pos _
    · exact Nat.one_pos

instance barPay_storable (c : Dev nD) (t : Fin 3) : BI.Storable (upEmb : UEmb _ 𝕄) (barPay (F := F) c t) := by
  unfold barPay; infer_instance
instance xPay_storable (k : Fin 4) (t : Fin 3) (c : Dev nD) : BI.Storable (upEmb : UEmb _ 𝕄) (xPay (F := F) m ρ k t c) := by
  unfold xPay; split <;> infer_instance

instance xRd_payload_storable (g : GSem nD τ sig) (r : ℕ) (d : Fin 3) :
    BI.Storable (upEmb : UEmb _ 𝕄) ((xRd (F := F) m ρ).payload g r d) := by
  dsimp only [xRd]
  split <;> infer_instance

section Sched
variable (c : Dev nD) (k : Fin 4) (t : Fin 3)

theorem cellAt_bar : cellAt (.reg barS) = some none := cellAt_csem none
theorem cellAt_x : cellAt (.dma (xsem k t)) = some (some (k, t)) := cellAt_csem (some (k, t))

theorem duties_bar : (xRd (F := F) m ρ).duties (barCell c) 0 = Finset.univ := by
  dsimp only [xRd]; rw [if_pos ⟨rfl, rfl⟩, cellAt_bar]
theorem duties_x : (xRd (F := F) m ρ).duties (xCell k t c) 0 = {0} := by
  dsimp only [xRd]; rw [if_pos ⟨rfl, rfl⟩, cellAt_x]
theorem duties_later (g : GSem nD τ sig) : ∀ r, 1 ≤ r → (xRd (F := F) m ρ).duties g r = ∅ :=
  fun r hr => by dsimp only [xRd]; rw [if_neg fun h => by omega]

theorem amount_bar (d : Fin 3) : (xRd (F := F) m ρ).amount (barCell c) 0 d = 1 := by
  dsimp only [xRd]; rw [cellAt_bar]
theorem amount_x (d : Fin 3) : (xRd (F := F) m ρ).amount (xCell k t c) 0 d = xamt k := by
  dsimp only [xRd]; rw [cellAt_x]

theorem expect_bar : (xRd (F := F) m ρ).expect (barCell c) 0 = 3 := by
  unfold Schedule.expect Schedule.amountOf
  rw [duties_bar, Finset.sum_congr rfl fun d _ => amount_bar m ρ c d]; rfl
theorem expect_x : (xRd (F := F) m ρ).expect (xCell k t c) 0 = xamt k := by
  unfold Schedule.expect Schedule.amountOf; rw [duties_x, Finset.sum_singleton, amount_x]

theorem payload_bar (d : Fin 3) : (xRd (F := F) m ρ).payload (barCell c) 0 d = barPay c d := by
  dsimp only [xRd]; rw [cellAt_bar]
theorem payload_x (d : Fin 3) : (xRd (F := F) m ρ).payload (xCell k t c) 0 d = xPay m ρ k t c := by
  dsimp only [xRd]; rw [cellAt_x]

/-- The whole barrier round: the landing slots of all three peers. -/
theorem rest_bar : bigSep ((xRd (F := F) m ρ).duties (barCell c) 0 \ ∅) (fun d => (xRd (F := F) m ρ).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons,
    bigSepL_singleton, payload_bar, payload_bar, payload_bar]
  rfl
/-- The whole round of a transfer's cell. -/
theorem rest_x : bigSep ((xRd (F := F) m ρ).duties (xCell k t c) 0 \ ∅) (fun d => (xRd (F := F) m ρ).payload (xCell k t c) 0 d)
    = xPay m ρ k t c := by
  rw [Finset.sdiff_empty, duties_x, bigSep_singleton, payload_x]

end Sched

/-! ## What a device owes, and the levels -/

/-- The credits device `c` pays, the last payment first: its six transfers' receive cells and, before
    them, the three barrier cells ahead. -/
def pay (c : Dev nD) : ℕ → GSem nD τ sig × ℕ
  | 0 => (xCell 3 2 (ahead 2 c), xamt 3)
  | 1 => (xCell 2 2 (ahead 2 c), xamt 2)
  | 2 => (xCell 3 1 (ahead 1 c), xamt 3)
  | 3 => (xCell 2 1 (ahead 1 c), xamt 2)
  | 4 => (xCell 3 0 (ahead 0 c), xamt 3)
  | 5 => (xCell 2 0 (ahead 0 c), xamt 2)
  | 6 => (barCell (ahead 2 c), 1)
  | 7 => (barCell (ahead 1 c), 1)
  | _ => (barCell (ahead 0 c), 1)

/-- What is owed with `n` payments to go. -/
def due (c : Dev nD) : ℕ → CellTallies nD τ sig Unit
  | 0 => 0
  | n + 1 => due c n + tallyAt (pay c n).1 () (pay c n).2

theorem due_succ (c : Dev nD) (n : ℕ) : due c (n + 1) = due c n + tallyAt (pay c n).1 () (pay c n).2 := rfl

theorem due_pos {c : Dev nD} {n : ℕ} {g : GSem nD τ sig} {u : Unit} (h : 0 < due c n g u) : ∃ k < n, g = (pay c k).1 := by
  induction n with
  | zero => exact absurd h (Nat.lt_irrefl 0)
  | succ n ih =>
    rw [due_succ, Pi.add_apply, Finsupp.add_apply, tallyAt_apply] at h
    by_cases hg : g = (pay c n).1 ∧ u = ()
    · exact ⟨n, Nat.lt_succ_self n, hg.1⟩
    · rw [if_neg hg, Nat.add_zero] at h
      obtain ⟨k, hk, e⟩ := ih h
      exact ⟨k, Nat.lt_succ_of_lt hk, e⟩

def L (g : GSem nD τ sig) : Finset Unit := if g.1.2 = .tc then {()} else ∅
/-- The level of a semaphore: a barrier's 1, a receive cell's 2, any other's 0. -/
def level : SemLoc sig → ℕ
  | .reg _ => 1
  | .dma q => if 12 ≤ q.val then 2 else 0
def lv (g : GSem nD τ sig) (_ : Unit) : ℕ := level g.2

theorem L_of_ne (g : GSem nD τ sig) (h : g.1.2 ≠ .tc) : L g = ∅ := if_neg h
theorem L_tc (c : Dev nD) (sm : SemLoc sig) : L ((c : Thread nD τ), sm) = {()} := if_pos rfl

theorem pay_tc (c : Dev nD) (k : ℕ) : ((pay c k).1.1).2 = .tc := by unfold pay; split <;> rfl

/-- A wait at a level below those of everything still owed is allowed. -/
theorem mayWait (c : Dev nD) (sm : SemLoc sig) (n : ℕ) (l : ℕ) (h₁ : level sm ≤ l) (h₂ : ∀ k < n, l < level (pay c k).1.2) :
    (levAts L lv : sProp 𝕄) ⊢ MayWait (c : Thread nD τ) sm () (due c n) :=
  MayOwe.of_cut (L := L) (lev := lv) l
    (fun p hp => by rw [Finset.mem_singleton.mp hp, L_tc]; exact Finset.mem_singleton_self _)
    (fun g u hg => by
      obtain ⟨k, -, rfl⟩ := due_pos hg
      rw [L, if_pos (pay_tc c k)]; exact Finset.mem_singleton_self _)
    (fun p hp => by rw [Finset.mem_singleton.mp hp]; exact h₁)
    (fun g u hg => by obtain ⟨k, hk, rfl⟩ := due_pos hg; exact h₂ k hk)

/-- Everything owed is above level 0; -/
theorem level_pay (c : Dev nD) (k : ℕ) : 0 < level (pay c k).1.2 := by
  unfold pay; split <;> first | exact Nat.one_pos | (show 0 < 2; decide)
/-- and the transfers' credits above level 1. -/
theorem level_pay_x (c : Dev nD) (k : ℕ) (hk : k < 6) : 1 < level (pay c k).1.2 := by
  match k, hk with
  | 0, _ | 1, _ | 2, _ | 3, _ | 4, _ | 5, _ => show 1 < 2; decide

end Cert.KernelIdeal.Exchange

end
-- ==== Proof.Steps.lean ====
/-
# The steps of the exchange

One rule per kind of effect in the kernel's body, at the exchange's schedule: the signals of the
barrier, the wait for it, the transfers between devices and the waits for them, the local transfers
of weights, and the loads and stores of slots. Each is stated at a device and a step, with the
semaphores and memrefs the program names given up to an equation.
-/
module

public import proofs.«01_k».proof.Proof.Protocol

@[expose] public section

noncomputable section

namespace Cert.KernelIdeal.Exchange

open Cert.KernelIdeal Cert.KernelIdeal.Gen Cert.Slots
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a piece of the body on device `c`. -/
abbrev Wp {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- What never changes hands: the levels, the invariants of all cells of all devices, and that round 0
    of each is reached. -/
def rec (K : Dev nD × Cell → ℕ) : sProp 𝕄 :=
  iprop(levAts L lv ∗ (bigSep Finset.univ fun ck : Dev nD × Cell => cellInv ER (xRd m ρ) (K ck) (kcell ck))
    ∗ bigSep Finset.univ fun ck : Dev nD × Cell => reached ER (kcell ck) 0)

instance rec_persistent (K : Dev nD × Cell → ℕ) : BI.Persistent (rec m ρ K) := by unfold rec; infer_instance

/-- What a device owes with `n` payments to go, whatever it has waited for. -/
def owing (c : Dev nD) (n : ℕ) : sProp 𝕄 := iprop(∃ W, owes (c : Thread nD τ) (due c n) W)

variable (K : Dev nD × Cell → ℕ)

theorem rec_inv (ck : Dev nD × Cell) : rec m ρ K ⊢ (cellInv ER (xRd m ρ) (K ck) (kcell ck) : sProp 𝕄) := by
  unfold rec
  refine BIBase.Entails.trans (show _ ⊢ (bigSep Finset.univ fun ck : Dev nD × Cell => cellInv ER (xRd m ρ) (K ck) (kcell ck) : sProp 𝕄) from ?_)
    (bigSep_elim (Finset.mem_univ ck))
  iintro ⟨-, H, -⟩
  iexact H

theorem rec_reached (ck : Dev nD × Cell) : rec m ρ K ⊢ (reached ER (kcell ck) 0 : sProp 𝕄) := by
  unfold rec
  refine BIBase.Entails.trans (show _ ⊢ (bigSep Finset.univ fun ck : Dev nD × Cell => reached ER (kcell ck) 0 : sProp 𝕄) from ?_)
    (bigSep_elim (Finset.mem_univ ck))
  iintro ⟨-, -, H⟩
  iexact H

theorem rec_lev : rec m ρ K ⊢ (levAts L lv : sProp 𝕄) := by
  unfold rec
  iintro ⟨H, -, -⟩
  iexact H

section Steps

variable (c : Dev nD) {α : Type} {Q : α → sProp (MT nD τ sig Unit (Elt F) ℕ UU ℕ)}

/-! ## The barrier -/

/-- A signal `t + 1` places ahead: the device gives away its landing slots for the step that arrives
    from there. -/
theorem step_signal (t : Fin 3) (j : ℕ) (hj : pay c j = (barCell (ahead t c), 1)) {n : Dev nD} (hn : n = ahead t c) {a : ℤ} (ha : a = ((1 : ℕ) : ℤ))
    {k : PUnit → Prog (TpuEff nD τ sig (Elt F) Λ₀ .tc) α} :
    iprop(rec m ρ K ∗ owing c (j + 1) ∗ dutyTok ER (barCell (ahead t c)) 0 t.rev
        ∗ free (c : Thread nD τ) (qrSlot t.rev) ∗ free (c : Thread nD τ) (srSlot t.rev))
      ⊢ iprop((owing c j -∗ Wp c (k ⟨⟩) Q) -∗ Wp c (.op (.semSignal (Dev.tc n : Thread nD τ) barS a) k) Q) := by
  subst hn ha
  iintro ⟨#HR, HO, Ht, Hq, Hs⟩ Hk
  unfold owing
  icases HO with ⟨%W, HO⟩
  iapply (Rounds.wp_signal 𝒱₀ ER (xRd m ρ) (c : Thread nD τ) none (dst := (ahead t c : Thread nD τ)) (κ := K (ahead t c, none))
      (d := t.rev) (r := 0) (by rw [duties_bar]; exact Finset.mem_univ _) (amount_bar m ρ (ahead t c) t.rev) () (due c j)
      (O₀ := due c (j + 1)) (by rw [due_succ, hj])) $$ [HO Ht Hq Hs]
  · isplitr; · iapply (rec_inv m ρ K (ahead t c, none)) $$ HR
    isplitl [HO]; · iexact HO
    isplitl [Ht]; · iexact Ht
    isplitl [Hq Hs]
    · rw [payload_bar]; unfold barPay; rw [ahead_rev]
      isplitl [Hq]; · iexact Hq
      isplitl [Hs]; · iexact Hs
      isplitr; · iapply (rec_reached m ρ K (c, some (2, t.rev))) $$ HR
      iapply (rec_reached m ρ K (c, some (3, t.rev))) $$ HR
    · iapply (rec_reached m ρ K (ahead t c, none)) $$ HR
  iintro HO
  iapply Hk
  iexists W
  iexact HO

/-- The wait for the three peers: the landing slots of all of them, and the barrier's cell closed. -/
theorem step_barrier {a : ℤ} (ha : a = ((3 : ℕ) : ℤ)) {k : PUnit → Prog (TpuEff nD τ sig (Elt F) Λ₀ .tc) α} :
    iprop(rec m ρ K ∗ owing c 6 ∗ cred (tallyAt (barCell c) () 3) ∗ atPos ER (barCell c) 0 ∅ 0)
      ⊢ iprop((iprop(owing c 6 ∗ semVal (barCell c) 0 ∗ barPay c 0 ∗ barPay c 1 ∗ barPay c 2) -∗ Wp c (k ⟨⟩) Q)
          -∗ Wp c (.op (.semWait barS a) k) Q) := by
  subst ha
  iintro ⟨#HR, HO, Hc, Hat⟩ Hk
  unfold owing
  icases HO with ⟨%W, HO⟩
  iapply (Rounds.wp_wait_rest_token 𝒱₀ ER (xRd m ρ) (c : Thread nD τ) none (κ := K (c, none))
      (wpE_semWait_eq 𝒱₀ (c : Thread nD τ) none Set.univ) (Set.mem_univ _) () (O := due c 6) (W := W) (R := 0) (m := 0) (T := ∅)
      (by rw [expect_bar])) $$ [HO Hc Hat]
  · isplitr; · iapply (rec_inv m ρ K (c, none)) $$ HR
    isplitl [Hc]; · iexact Hc
    isplitl [HO]; · iexact HO
    isplitr
    · iapply (mayWait c (.reg barS) 6 1 le_rfl (fun j hj => level_pay_x c j hj))
      iapply (rec_lev m ρ K) $$ HR
    iexact Hat
  iintro ⟨HO, Hat, -, Hpay⟩
  imod (Rounds.cell_close ER (xRd m ρ) (Set.mem_univ (K (c, none))) (fun h => h) (R := 0 + 1) (duties_later m ρ (barCell c))) $$ [Hat] with Hz
  · isplitr; · iapply (rec_inv m ρ K (c, none)) $$ HR
    iexact Hat
  ihave Hp := (Entails.of_eq (rest_bar m ρ c)) $$ Hpay
  icases Hp with ⟨H0, H1, H2⟩
  iapply Hk
  isplitl [HO]; · iexists _; iexact HO
  isplitl [Hz]; · iexact Hz
  isplitl [H0]; · iexact H0
  isplitl [H1]; · iexact H1
  iexact H2

/-! ## The transfers between devices -/

/-- A transfer `t + 1` places ahead: the slot sent goes into its send cell's round, the landing slot,
    rewritten, into the receiver's. -/
theorem step_send (kS kR : Fin 4) (t : Fin 3) (j : ℕ) (hj : pay c j = (xCell kR t (ahead t c), xamt kR)) (hk : xamt kS = xamt kR)
    {s s' : Shape} {e : EltTy} (sm dm : Memref sig .tc .vmem s e) (hq : s.Squeezes s') (hc : s.ShapeCasts s') (X : s.Idx → Elt F e)
    (hp₁ : owns (c : Thread nD τ) sm fullShare X ⊢ xPay m ρ kS t c)
    (hp₂ : owns (ahead t c : Thread nD τ) dm fullShare X ⊢ xPay m ρ kR t (ahead t c))
    {n : Dev nD} (hn : n = ahead t c) {src dst : Memref sig .tc .vmem s' e} (hsrc' : src = sm.squeeze s' hq) (hdst' : dst = dm.squeeze s' hq)
    {sS sR : DmaSem sig} (hS : sS = xsem kS t) (hR : sR = xsem kR t)
    (hN : (dm.squeeze s' hq).view.amount (.dma (xsem kR t)) = xamt kR)
    {hsc : dst.view.ref.isScScratch = false} {hsrc : src.view.WordExact} {hdst : dst.view.WordExact}
    {hsem : DmaTarget.Typed .vmem (.dma sR) (.remote (Dev.tc n : Thread nD τ) dst (.dma sS) hsc)}
    {k : PUnit → Prog (TpuEff nD τ sig (Elt F) Λ₀ .tc) α} :
    iprop(rec m ρ K ∗ owing c (j + 1) ∗ owns (c : Thread nD τ) sm fullShare X ∗ free (ahead t c : Thread nD τ) dm
        ∗ dutyTok ER (xCell kS t c) 0 0 ∗ dutyTok ER (xCell kR t (ahead t c)) 0 0)
      ⊢ iprop((iprop(owing c j ∗ cred (tallyAt (xCell kS t c) () (xamt kS))) -∗ Wp c (k ⟨⟩) Q)
          -∗ Wp c (.op (.enqueueDma src (.remote (Dev.tc n : Thread nD τ) dst (.dma sS) hsc) (.dma sR) hsrc hdst hsem) k) Q) := by
  subst hn hsrc' hdst' hS hR
  rw [← owns_squeeze (c : Thread nD τ) sm hq hc, ← free_squeeze (ahead t c : Thread nD τ) dm hq]
  iintro ⟨#HR, HO, Hs, Hd, Ht₁, Ht₂⟩ Hk
  unfold owing owns free
  icases HO with ⟨%W, HO⟩
  icases Hs with ⟨%fs, %hfs, Hs⟩
  icases Hd with ⟨%fd, Hd⟩
  iapply (Rounds.wp_send_pointsTo 𝒱₀ ER (xRd m ρ) (c : Thread nD τ) none (κ₁ := K (c, some (kS, t))) (κ₂ := K (ahead t c, some (kR, t)))
      (r₁ := 0) (r₂ := 0) (d₁ := 0) (d₂ := 0) (fs := fs) (fd := fd) (q := fullShare)
      (by rw [duties_x]; exact Finset.mem_singleton_self _) (by rw [duties_x]; exact Finset.mem_singleton_self _)
      () () (xamt kR) hN ((amount_x m ρ c kS t 0).trans hk) (amount_x m ρ (ahead t c) kR t 0) (due c j) (O₀ := due c (j + 1)) (by rw [due_succ, hj]) (W := W)
      (by
        rw [payload_x]
        refine BIBase.Entails.trans ?_ hp₁
        rw [← owns_squeeze (c : Thread nD τ) sm hq hc, ← hfs]
        exact owns_intro _ _ _ _)
      (by
        rw [payload_x]
        refine BIBase.Entails.trans ?_ hp₂
        rw [← owns_squeeze (ahead t c : Thread nD τ) dm hq hc, ← hfs]
        refine (owns_intro _ _ _ _).trans (Entails.of_eq ?_)
        rw [View.read_write_univ])) $$ [HO Hs Hd Ht₁ Ht₂]
  · isplitr; · iapply (rec_inv m ρ K (c, some (kS, t))) $$ HR
    isplitr; · iapply (rec_inv m ρ K (ahead t c, some (kR, t))) $$ HR
    isplitl [Hs]; · iexact Hs
    isplitl [Hd]; · iexact Hd
    isplitl [HO]; · iexact HO
    isplitl [Ht₁]; · iexact Ht₁
    isplitr; · iapply (rec_reached m ρ K (c, some (kS, t))) $$ HR
    isplitl [Ht₂]; · iexact Ht₂
    iapply (rec_reached m ρ K (ahead t c, some (kR, t))) $$ HR
  iintro ⟨Hc, HO⟩
  iapply Hk
  isplitl [HO]; · iexists W; iexact HO
  rw [hk]
  iexact Hc

/-- The wait for one of the device's transfer cells, nothing owed: its round's payload, and the cell
    closed. -/
theorem step_wait (kd : Fin 4) (t : Fin 3) {sem : DmaSem sig} (hs : sem = xsem kd t) {s s' : Shape} {e e' : EltTy} {sp sp' : Space}
    {src : Memref sig .tc sp s e} {dst : Memref sig .tc sp' s' e'} {hsrc : src.view.WordExact} {hdst : dst.view.WordExact}
    (hN : dst.view.dmaCredit = xamt kd) {k : PUnit → Prog (TpuEff nD τ sig (Elt F) Λ₀ .tc) α} :
    iprop(rec m ρ K ∗ owing c 0 ∗ cred (tallyAt (xCell kd t c) () (xamt kd)) ∗ atPos ER (xCell kd t c) 0 ∅ 0)
      ⊢ iprop((iprop(owing c 0 ∗ semVal (xCell kd t c) 0 ∗ xPay m ρ kd t c) -∗ Wp c (k ⟨⟩) Q)
          -∗ Wp c (.op (.waitDma2 sem src dst hsrc hdst) k) Q) := by
  subst hs
  iintro ⟨#HR, HO, Hc, Hat⟩ Hk
  unfold owing
  icases HO with ⟨%W, HO⟩
  iapply (Rounds.wp_wait_rest_token 𝒱₀ ER (xRd m ρ) (c : Thread nD τ) none (κ := K (c, some (kd, t)))
      (wpE_waitDma2_eq 𝒱₀ (c : Thread nD τ) none Set.univ) (Set.mem_univ _) () (O := 0) (W := W) (R := 0) (m := 0) (T := ∅)
      (by rw [Nat.zero_add, expect_x]; exact hN)) $$ [HO Hc Hat]
  · isplitr; · iapply (rec_inv m ρ K (c, some (kd, t))) $$ HR
    isplitl [Hc]; · rw [hN]; iexact Hc
    isplitl [HO]; · iexact HO
    isplitr; · rw [MayWait_zero]; iempintro
    iexact Hat
  iintro ⟨HO, Hat, -, Hpay⟩
  imod (Rounds.cell_close ER (xRd m ρ) (Set.mem_univ (K (c, some (kd, t)))) (fun h => h) (R := 0 + 1) (duties_later m ρ (xCell kd t c))) $$ [Hat] with Hz
  · isplitr; · iapply (rec_inv m ρ K (c, some (kd, t))) $$ HR
    iexact Hat
  ihave Hp := (Entails.of_eq (rest_x m ρ c kd t)) $$ Hpay
  iapply Hk
  isplitl [HO]; · iexists _; iexact HO
  isplitl [Hz]; · iexact Hz
  iexact Hp

/-! ## The local transfers of weights -/

/-- The device's copy of `w`, whole. -/
def wPts (c : Dev nD) : sProp 𝕄 :=
  (((c : Thread nD τ).loc main_arg1) ↦{fullShare} (s₀ m ρ).mem ((c : Thread nD τ).loc main_arg1))

abbrev wSq (k : Fin 2) : Memref sig .tc .vmem S4096x512 .f32 := (wfSlot k).squeeze S4096x512 squeezes_S1x4096x512_S4096x512

/-- A transfer of column block `r` into slot `i` in flight. -/
def fetching (c : Dev nD) (i : Fin 2) (r : Fin 4) : sProp 𝕄 :=
  iprop(∃ fd : Buf (Elt F) ((wSq i).view.loc (c : Thread nD τ)),
    Transfers.Flight EC (c : Thread nD τ) (.dma (wsem i)) () Nw
      iprop(((wSq i).view.loc (c : Thread nD τ) ↦[(wSq i).view.set]{fullShare}
          ((wSq i).view.write (Elt F) fd ((wCols c r).view.read (Elt F) ((s₀ m ρ).mem ((c : Thread nD τ).loc main_arg1))) Finset.univ))
        ∗ ((wCols c r).view.loc (c : Thread nD τ) ↦[(wCols c r).view.set]{fullShare} (s₀ m ρ).mem ((c : Thread nD τ).loc main_arg1)))
    ∗ (((c : Thread nD τ).loc main_arg1) ↦[Finset.univ \ (wCols c r).view.set]{fullShare} (s₀ m ρ).mem ((c : Thread nD τ).loc main_arg1)))

/-- The start of a transfer of weights. -/
theorem step_fetch (i : Fin 2) (r : Fin 4) {src : Memref sig .tc .hbm S4096x512 .f32} {dst : Memref sig .tc .vmem S4096x512 .f32}
    (hsrc' : src = wCols c r) (hdst' : dst = wSq i) {sem : DmaSem sig} (hs : sem = wsem i)
    {hsrc : src.view.WordExact} {hdst : dst.view.WordExact} {hsem : DmaTarget.Typed (nD := nD) (τ := τ) (p := (c : Thread nD τ).2) .hbm (.dma sem) (.here dst)}
    {k : PUnit → Prog (TpuEff nD τ sig (Elt F) Λ₀ .tc) α} :
    iprop(wPts m ρ c ∗ free (c : Thread nD τ) (wfSlot i) ∗ semVal ((c : Thread nD τ), .dma (wsem i)) 0)
      ⊢ iprop((fetching m ρ c i r -∗ Wp c (k ⟨⟩) Q) -∗ Wp c (.op (.enqueueDma src (.here dst) (.dma sem) hsrc hdst hsem) k) Q) := by
  subst hsrc' hdst' hs
  rw [← free_squeeze (c : Thread nD τ) (wfSlot i) squeezes_S1x4096x512_S4096x512]
  iintro ⟨Hw, Hd, Hv⟩ Hk
  unfold wPts free
  icases Hd with ⟨%fd, Hd⟩
  ihave Hw2 := ((pointsTo_split_subset (Finset.subset_univ (wCols c r).view.set)).1) $$ Hw
  icases Hw2 with ⟨Hw, Hrest⟩
  iapply (Transfers.wp_dmaLocal EC 𝒱₀ (c : Thread nD τ) none (src := wCols c r) (dst := wSq i) (via := .same) (q := fullShare)
      (fs := (s₀ m ρ).mem ((c : Thread nD τ).loc main_arg1)) (fd := fd) (Sd := (wSq i).view.set) () Nw rfl Nw_pos (Finset.Subset.refl _)) $$ [Hw Hd Hv]
  · isplitl [Hw]; · iexact Hw
    isplitl [Hd]; · iexact Hd
    iexact Hv
  iintro Hf
  iapply Hk
  unfold fetching
  iexists fd
  isplitl [Hf]; · iexact Hf
  iexact Hrest

theorem level_wsem (i : Fin 2) : level (.dma (wsem i)) = 0 := by revert i; decide

/-- Its end: the slot holds the column block. -/
theorem step_fetched (i : Fin 2) (r : Fin 4) (n : ℕ) {sem : DmaSem sig} (hs : sem = wsem i) {src : Memref sig .tc .hbm S4096x512 .f32}
    {dst : Memref sig .tc .vmem S4096x512 .f32} (hN : dst.view.dmaCredit = Nw)
    {hsrc : src.view.WordExact} {hdst : dst.view.WordExact} {k : PUnit → Prog (TpuEff nD τ sig (Elt F) Λ₀ .tc) α} :
    iprop(rec m ρ K ∗ owing c n ∗ fetching m ρ c i r)
      ⊢ iprop((iprop(owing c n ∗ owns (c : Thread nD τ) (wfSlot i) fullShare (wIn m ρ c r) ∗ wPts m ρ c ∗ semVal ((c : Thread nD τ), .dma (wsem i)) 0)
            -∗ Wp c (k ⟨⟩) Q)
          -∗ Wp c (.op (.waitDma2 sem src dst hsrc hdst) k) Q) := by
  subst hs
  iintro ⟨#HR, HO, Hf⟩ Hk
  unfold owing fetching
  icases HO with ⟨%W, HO⟩
  icases Hf with ⟨%fd, Hf, Hrest⟩
  iapply (Transfers.wp_waitLocalO EC 𝒱₀ (c : Thread nD τ) none () hN (O := due c n) (W := W)) $$ [Hf HO]
  · isplitl [Hf]; · iexact Hf
    isplitl [HO]; · iexact HO
    iapply (mayWait c (.dma (wsem i)) n 0 (level_wsem i).le (fun j _ => level_pay c j))
    iapply (rec_lev m ρ K) $$ HR
  iintro ⟨⟨Hd, Hw⟩, Hv, HO⟩
  iapply Hk
  isplitl [HO]; · iexists _; iexact HO
  isplitl [Hd]
  · rw [← owns_squeeze (c : Thread nD τ) (wfSlot i) squeezes_S1x4096x512_S4096x512 casts_w', wIn, shapeCast_shapeCast]
    ihave H := (owns_intro (c : Thread nD τ) (wSq i) fullShare _) $$ Hd
    rw [View.read_write_univ]
    iexact H
  isplitl [Hw Hrest]
  · unfold wPts
    iapply ((pointsTo_split_subset (Finset.subset_univ (wCols c r).view.set)).2)
    isplitl [Hw]; · iexact Hw
    iexact Hrest
  iexact Hv

/-! ## Loads and stores -/

/-- A load of a slot returns what it holds; -/
theorem step_load {s : Shape} {e : EltTy} {mm : Memref sig .tc .vmem s e} {off : Fin s.rank → ℕ} (off' : Fin s.rank → ℕ) (ho : off = off')
    {size : Fin s.rank → ℕ} {hi : ∀ a, off a + size a ≤ s.size a} {hi' : ∀ a, off' a + size a ≤ s.size a}
    {hr : ∀ a, (Rect.unit off' size hi').stride a = 1} {X : (Rect.unit off' size hi').shape.Idx → Elt F e}
    {hl : mm.view.LoadsAt (Rect.unit off size hi).toLoadRect} {k : ((Rect.unit off size hi).shape.Idx → Elt F e) → Prog (TpuEff nD τ sig (Elt F) Λ₀ .tc) α} :
    owns (c : Thread nD τ) (mm.slice (Rect.unit off' size hi') hr) fullShare X
      ⊢ iprop((owns (c : Thread nD τ) (mm.slice (Rect.unit off' size hi') hr) fullShare X -∗ Wp c (k X) Q)
          -∗ Wp c (.op (.load mm (Rect.unit off size hi).toLoadRect hl) k) Q) := by
  subst ho
  exact wp_load_slot 𝒱₀ (c : Thread nD τ) none

/-- of a slot whose contents nobody has named, something; -/
theorem step_load_free {s : Shape} {e : EltTy} {mm : Memref sig .tc .vmem s e} {off : Fin s.rank → ℕ} (off' : Fin s.rank → ℕ) (ho : off = off')
    {size : Fin s.rank → ℕ} {hi : ∀ a, off a + size a ≤ s.size a} {hi' : ∀ a, off' a + size a ≤ s.size a}
    {hr : ∀ a, (Rect.unit off' size hi').stride a = 1}
    {hl : mm.view.LoadsAt (Rect.unit off size hi).toLoadRect} {p : Prog (TpuEff nD τ sig (Elt F) Λ₀ .tc) α} :
    free (c : Thread nD τ) (mm.slice (Rect.unit off' size hi') hr)
      ⊢ iprop((free (c : Thread nD τ) (mm.slice (Rect.unit off' size hi') hr) -∗ Wp c p Q)
          -∗ Wp c (.op (.load mm (Rect.unit off size hi).toLoadRect hl) fun _ => p) Q) := by
  iintro H Hk
  ihave H' := (free_owns (c : Thread nD τ) (mm.slice (Rect.unit off' size hi') hr)) $$ H
  icases H' with ⟨%X, H⟩
  iapply (step_load c off' ho (mm := mm) (hr := hr) (hl := hl)) $$ H
  iintro H
  iapply Hk
  iapply (owns_free (c : Thread nD τ) (mm.slice (Rect.unit off' size hi') hr) X) $$ H

/-- and a store to it leaves what was stored. -/
theorem step_store {s : Shape} {e : EltTy} {mm : Memref sig .tc .vmem s e} {off : Fin s.rank → ℕ} (off' : Fin s.rank → ℕ) (ho : off = off')
    {size : Fin s.rank → ℕ} {hi : ∀ a, off a + size a ≤ s.size a} {hi' : ∀ a, off' a + size a ≤ s.size a}
    {hr : ∀ a, (Rect.unit off' size hi').stride a = 1} {w : (Rect.unit off size hi).shape.Idx → Elt F e}
    {hx : (mm.access (Rect.unit off size hi)).Stores Finset.univ} {hm} {k : PUnit → Prog (TpuEff nD τ sig (Elt F) Λ₀ .tc) α} :
    free (c : Thread nD τ) (mm.slice (Rect.unit off' size hi') hr)
      ⊢ iprop((owns (c : Thread nD τ) (mm.slice (Rect.unit off' size hi') hr) fullShare w -∗ Wp c (k ⟨⟩) Q)
          -∗ Wp c (.op (.store mm (Rect.unit off size hi) w Finset.univ hx hm) k) Q) := by
  subst ho
  iintro H Hk
  ihave H' := (free_owns (c : Thread nD τ) (mm.slice (Rect.unit off size hi) hr)) $$ H
  icases H' with ⟨%X, H⟩
  iapply (wp_store_slot 𝒱₀ (c : Thread nD τ) none (m := mm) (hr := hr)) $$ H
  iexact Hk

/-- The staged rows of `x`, the two scales, and the device's block of the result, held whole. -/
def xPts (c : Dev nD) : sProp 𝕄 := (((c : Thread nD τ).loc cc0_stg0_0) ↦{fullShare} xIn m ρ c)
def aPts (c : Dev nD) : sProp 𝕄 := (((c : Thread nD τ).loc cc0_stg1_0) ↦{fullShare} aIn m ρ c)
def bPts (c : Dev nD) : sProp 𝕄 := (((c : Thread nD τ).loc cc0_stg2_0) ↦{fullShare} bIn m ρ c)
def oPts (c : Dev nD) (f : (cc0_stg3_0 : Ref sig .tc).ty.Contents (Elt F)) : sProp 𝕄 := (((c : Thread nD τ).loc cc0_stg3_0) ↦{fullShare} f)

theorem off_zero : (![0, 0] : Fin 2 → ℕ) = fun _ => 0 := funext fun a => by fin_cases a <;> rfl

/-- A load of the rows of `x`. -/
theorem step_x {hi} {hl : xM.view.LoadsAt (Rect.unit (s := S1024x4096) ![0, 0] S1024x4096.size hi).toLoadRect}
    {k : (S1024x4096.Idx → Elt F .f32) → Prog (TpuEff nD τ sig (Elt F) Λ₀ .tc) α} :
    xPts m ρ c ⊢ iprop((xPts m ρ c -∗ Wp c (k (xIn m ρ c)) Q)
      -∗ Wp c (.op (.load xM (Rect.unit (s := S1024x4096) ![0, 0] S1024x4096.size hi).toLoadRect hl) k) Q) := by
  unfold xPts
  have h := wp_load (defs := defs₀ (F := F)) (Γ := .empty) (Ix := Unit) (Name := ℕ) (U := UU) (Lvl := ℕ) 𝒱₀ (c : Thread nD τ) none Set.univ (m := xM) (hl := hl) (k := k)
    (Q := Q) (q := fullShare) (f := xIn m ρ c) (Finset.subset_univ _)
  rw [show xM.view.readAt (Elt F) (Rect.unit (s := S1024x4096) ![0, 0] S1024x4096.size hi).toLoadRect (xIn m ρ c) = xIn m ρ c from
    Memref.readAt_unit_zero (Elt F) cc0_stg0_0 off_zero hi (xIn m ρ c)] at h
  exact h

/-- The index of the one element, whichever way it is named. -/
theorem eq_first (i : S1.Idx) : i = first := funext fun a => Fin.ext (by
  have h : S1.size a = 1 := by revert a; decide
  have := (i a).isLt
  show (i a).val = 0
  omega)

/-- The loads of the two scales. -/
theorem step_a {hi} {hw : (aM.access (Rect.unit (s := S1) ![0] S1.size hi)).Loads} {x : (Rect.unit (s := S1) ![0] S1.size hi).shape.Idx}
    {k : Elt F .f32 → Prog (TpuEff nD τ sig (Elt F) Λ₀ .tc) α} :
    aPts m ρ c ⊢ iprop((aPts m ρ c -∗ Wp c (k (aIn m ρ c first)) Q)
      -∗ Wp c (smemLoadElt aM (Rect.unit (s := S1) ![0] S1.size hi) hw x k) Q) := by
  unfold aPts
  have h := wp_smemLoadElt (defs := defs₀ (F := F)) (Γ := .empty) (Ix := Unit) (Name := ℕ) (U := UU) (Lvl := ℕ) 𝒱₀ (c : Thread nD τ) none Set.univ (m := aM) (hw := hw) (x := x) (k := k)
    (Q := Q) (q := fullShare) (f := aIn m ρ c) (Finset.subset_univ _)
  rw [show (aM.access (Rect.unit (s := S1) ![0] S1.size hi)).read (Elt F) (aIn m ρ c) x = aIn m ρ c first from
    congrArg (aIn m ρ c) (eq_first _)] at h
  exact h
theorem step_b {hi} {hw : (bM.access (Rect.unit (s := S1) ![0] S1.size hi)).Loads} {x : (Rect.unit (s := S1) ![0] S1.size hi).shape.Idx}
    {k : Elt F .f32 → Prog (TpuEff nD τ sig (Elt F) Λ₀ .tc) α} :
    bPts m ρ c ⊢ iprop((bPts m ρ c -∗ Wp c (k (bIn m ρ c first)) Q)
      -∗ Wp c (smemLoadElt bM (Rect.unit (s := S1) ![0] S1.size hi) hw x k) Q) := by
  unfold bPts
  have h := wp_smemLoadElt (defs := defs₀ (F := F)) (Γ := .empty) (Ix := Unit) (Name := ℕ) (U := UU) (Lvl := ℕ) 𝒱₀ (c : Thread nD τ) none Set.univ (m := bM) (hw := hw) (x := x) (k := k)
    (Q := Q) (q := fullShare) (f := bIn m ρ c) (Finset.subset_univ _)
  rw [show (bM.access (Rect.unit (s := S1) ![0] S1.size hi)).read (Elt F) (bIn m ρ c) x = bIn m ρ c first from
    congrArg (bIn m ρ c) (eq_first _)] at h
  exact h

/-- A block of the result, loaded and not used; -/
theorem step_oload (f : (cc0_stg3_0 : Ref sig .tc).ty.Contents (Elt F)) {r : Rect S4096x512}
    {hl : oM.view.LoadsAt r.toLoadRect} {p : Prog (TpuEff nD τ sig (Elt F) Λ₀ .tc) α} :
    oPts c f ⊢ iprop((oPts c f -∗ Wp c p Q) -∗ Wp c (.op (.load oM r.toLoadRect hl) fun _ => p) Q) := by
  unfold oPts
  exact wp_load (defs := defs₀ (F := F)) (Γ := .empty) (Ix := Unit) (Name := ℕ) (U := UU) (Lvl := ℕ) 𝒱₀ (c : Thread nD τ) none Set.univ (m := oM) (hl := hl)
    (k := fun _ => p) (Q := Q) (q := fullShare) (f := f) (Finset.subset_univ _)

/-- the result with a block rewritten; -/
abbrev put (r : Rect S4096x512) (f : (cc0_stg3_0 : Ref sig .tc).ty.Contents (Elt F)) (w : r.shape.Idx → Elt F .f32) :
    (cc0_stg3_0 : Ref sig .tc).ty.Contents (Elt F) := (oM.access r).write (Elt F) f w Finset.univ

/-- and the store that rewrites it. -/
theorem step_ostore (f : (cc0_stg3_0 : Ref sig .tc).ty.Contents (Elt F)) {r : Rect S4096x512} {w : r.shape.Idx → Elt F .f32}
    {hx : (oM.access r).Stores Finset.univ} {hm} {k : PUnit → Prog (TpuEff nD τ sig (Elt F) Λ₀ .tc) α} :
    oPts c f ⊢ iprop((oPts c (put r f w) -∗ Wp c (k ⟨⟩) Q) -∗ Wp c (.op (.store oM r w Finset.univ hx hm) k) Q) := by
  unfold oPts
  exact wp_store (defs := defs₀ (F := F)) (Γ := .empty) (Ix := Unit) (Name := ℕ) (U := UU) (Lvl := ℕ) 𝒱₀ (c : Thread nD τ) none Set.univ (m := oM) (r := r) (Mk := Finset.univ) (hx := hx) (hm := hm) (Finset.subset_univ _)

end Steps

end Cert.KernelIdeal.Exchange

end
-- ==== Proof.PartsA.lean ====
/-
# The first three pieces of the body

The scales are read, the first column block of `w` is fetched, the peers meet at the barrier, and the
first block is multiplied, quantised and sent.
-/
module

public import proofs.«01_k».proof.Proof.Steps

@[expose] public section

noncomputable section

namespace Cert.KernelIdeal.Exchange

open Cert.KernelIdeal Cert.KernelIdeal.Gen Cert.Slots
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Cell → ℕ) (c : Dev nD)

/-! ## Who the program's transfers go to -/

theorem dev1_eq : (⟨k0_dev1 c, k0_dev1_lt c⟩ : Dev nD) = ahead 0 c := Fin.ext (k0_dev1_eq c)
theorem dev2_eq : (⟨k0_dev2 c, k0_dev2_lt c⟩ : Dev nD) = ahead 1 c := Fin.ext (k0_dev2_eq c)
theorem dev3_eq : (⟨k0_dev3 c, k0_dev3_lt c⟩ : Dev nD) = ahead 2 c := Fin.ext (k0_dev3_eq c)
theorem dev4_eq : (⟨k0_dev4 c, k0_dev4_lt c⟩ : Dev nD) = ahead 0 c := Fin.ext (k0_dev4_eq c)
theorem dev5_eq : (⟨k0_dev5 c, k0_dev5_lt c⟩ : Dev nD) = ahead 0 c := Fin.ext (k0_dev5_eq c)
theorem dev6_eq : (⟨k0_dev6 c, k0_dev6_lt c⟩ : Dev nD) = ahead 1 c := Fin.ext (k0_dev6_eq c)
theorem dev7_eq : (⟨k0_dev7 c, k0_dev7_lt c⟩ : Dev nD) = ahead 1 c := Fin.ext (k0_dev7_eq c)
theorem dev8_eq : (⟨k0_dev8 c, k0_dev8_lt c⟩ : Dev nD) = ahead 2 c := Fin.ext (k0_dev8_eq c)
theorem dev9_eq : (⟨k0_dev9 c, k0_dev9_lt c⟩ : Dev nD) = ahead 2 c := Fin.ext (k0_dev9_eq c)

variable {Q : PUnit → sProp (MT nD τ sig Unit (Elt F) ℕ UU ℕ)}

section Send
variable {α : Type} {Q : α → sProp (MT nD τ sig Unit (Elt F) ℕ UU ℕ)}

/-- The transfer of step `t`'s product. -/
theorem step_send_q (t : Fin 3) (j : ℕ) (hj : pay c j = (xCell 2 t (ahead t c), xamt 2)) {n : Dev nD} (hn : n = ahead t c)
    {src dst : Memref sig .tc .vmem S1024x512 .i8} (hsrc' : src = (qsSlot t).squeeze S1024x512 squeezes_S1x1024x512_S1024x512)
    (hdst' : dst = (qrSlot t).squeeze S1024x512 squeezes_S1x1024x512_S1024x512)
    {sS sR : DmaSem sig} (hS : sS = xsem 0 t) (hR : sR = xsem 2 t)
    {hsc : dst.view.ref.isScScratch = false} {hsrc : src.view.WordExact} {hdst : dst.view.WordExact}
    {hsem : DmaTarget.Typed .vmem (.dma sR) (.remote (Dev.tc n : Thread nD τ) dst (.dma sS) hsc)}
    {k : PUnit → Prog (TpuEff nD τ sig (Elt F) Λ₀ .tc) α} :
    iprop(rec m ρ K ∗ owing c (j + 1) ∗ owns (c : Thread nD τ) (qsSlot t) fullShare (qOut m ρ c t) ∗ free (ahead t c : Thread nD τ) (qrSlot t)
        ∗ dutyTok ER (xCell 0 t c) 0 0 ∗ dutyTok ER (xCell 2 t (ahead t c)) 0 0)
      ⊢ iprop((iprop(owing c j ∗ cred (tallyAt (xCell 0 t c) () (xamt 0))) -∗ Wp c (k ⟨⟩) Q)
          -∗ Wp c (.op (.enqueueDma src (.remote (Dev.tc n : Thread nD τ) dst (.dma sS) hsc) (.dma sR) hsrc hdst hsem) k) Q) :=
  step_send m ρ K c 0 2 t j hj rfl (qsSlot t) (qrSlot t) squeezes_S1x1024x512_S1024x512 shapeCasts_S1x1024x512_S1024x512 (qOut m ρ c t)
    (BI.Entails.refl _) (by unfold xPay; rw [behind_ahead]) hn hsrc' hdst' hS hR rfl

/-- The transfer of step `t`'s row of scales. -/
theorem step_send_s (t : Fin 3) (j : ℕ) (hj : pay c j = (xCell 3 t (ahead t c), xamt 3)) {n : Dev nD} (hn : n = ahead t c)
    {src dst : Memref sig .tc .vmem S1x512 .f32} (hsrc' : src = (ssSlot t).squeeze S1x512 squeezes_S1x1x512_S1x512)
    (hdst' : dst = (srSlot t).squeeze S1x512 squeezes_S1x1x512_S1x512)
    {sS sR : DmaSem sig} (hS : sS = xsem 1 t) (hR : sR = xsem 3 t)
    {hsc : dst.view.ref.isScScratch = false} {hsrc : src.view.WordExact} {hdst : dst.view.WordExact}
    {hsem : DmaTarget.Typed .vmem (.dma sR) (.remote (Dev.tc n : Thread nD τ) dst (.dma sS) hsc)}
    {k : PUnit → Prog (TpuEff nD τ sig (Elt F) Λ₀ .tc) α} :
    iprop(rec m ρ K ∗ owing c (j + 1) ∗ owns (c : Thread nD τ) (ssSlot t) fullShare (sOut m ρ c t) ∗ free (ahead t c : Thread nD τ) (srSlot t)
        ∗ dutyTok ER (xCell 1 t c) 0 0 ∗ dutyTok ER (xCell 3 t (ahead t c)) 0 0)
      ⊢ iprop((iprop(owing c j ∗ cred (tallyAt (xCell 1 t c) () (xamt 1))) -∗ Wp c (k ⟨⟩) Q)
          -∗ Wp c (.op (.enqueueDma src (.remote (Dev.tc n : Thread nD τ) dst (.dma sS) hsc) (.dma sR) hsrc hdst hsem) k) Q) :=
  step_send m ρ K c 1 3 t j hj rfl (ssSlot t) (srSlot t) squeezes_S1x1x512_S1x512 shapeCasts_S1x1x512_S1x512 (sOut m ρ c t)
    (BI.Entails.refl _) (by unfold xPay; rw [behind_ahead]) hn hsrc' hdst' hS hR rfl

/-- The wait for step `t`'s product to have left gives its slot back; -/
theorem step_wait_q (t : Fin 3) {sem : DmaSem sig} (hs : sem = xsem 0 t) {s s' : Shape} {e e' : EltTy} {sp sp' : Space}
    {src : Memref sig .tc sp s e} {dst : Memref sig .tc sp' s' e'} {hsrc : src.view.WordExact} {hdst : dst.view.WordExact}
    (hN : dst.view.dmaCredit = xamt 0) {k : PUnit → Prog (TpuEff nD τ sig (Elt F) Λ₀ .tc) α} :
    iprop(rec m ρ K ∗ owing c 0 ∗ cred (tallyAt (xCell 0 t c) () (xamt 0)) ∗ atPos ER (xCell 0 t c) 0 ∅ 0)
      ⊢ iprop((iprop(owing c 0 ∗ semVal (xCell 0 t c) 0 ∗ owns (c : Thread nD τ) (qsSlot t) fullShare (qOut m ρ c t)) -∗ Wp c (k ⟨⟩) Q)
          -∗ Wp c (.op (.waitDma2 sem src dst hsrc hdst) k) Q) :=
  step_wait m ρ K c 0 t hs hN

/-- that for its scales to have left gives their slot back; -/
theorem step_wait_s (t : Fin 3) {sem : DmaSem sig} (hs : sem = xsem 1 t) {s s' : Shape} {e e' : EltTy} {sp sp' : Space}
    {src : Memref sig .tc sp s e} {dst : Memref sig .tc sp' s' e'} {hsrc : src.view.WordExact} {hdst : dst.view.WordExact}
    (hN : dst.view.dmaCredit = xamt 1) {k : PUnit → Prog (TpuEff nD τ sig (Elt F) Λ₀ .tc) α} :
    iprop(rec m ρ K ∗ owing c 0 ∗ cred (tallyAt (xCell 1 t c) () (xamt 1)) ∗ atPos ER (xCell 1 t c) 0 ∅ 0)
      ⊢ iprop((iprop(owing c 0 ∗ semVal (xCell 1 t c) 0 ∗ owns (c : Thread nD τ) (ssSlot t) fullShare (sOut m ρ c t)) -∗ Wp c (k ⟨⟩) Q)
          -∗ Wp c (.op (.waitDma2 sem src dst hsrc hdst) k) Q) :=
  step_wait m ρ K c 1 t hs hN

/-- that for a product to have landed gives the peer's product; -/
theorem step_wait_qr (t : Fin 3) {sem : DmaSem sig} (hs : sem = xsem 2 t) {s s' : Shape} {e e' : EltTy} {sp sp' : Space}
    {src : Memref sig .tc sp s e} {dst : Memref sig .tc sp' s' e'} {hsrc : src.view.WordExact} {hdst : dst.view.WordExact}
    (hN : dst.view.dmaCredit = xamt 2) {k : PUnit → Prog (TpuEff nD τ sig (Elt F) Λ₀ .tc) α} :
    iprop(rec m ρ K ∗ owing c 0 ∗ cred (tallyAt (xCell 2 t c) () (xamt 2)) ∗ atPos ER (xCell 2 t c) 0 ∅ 0)
      ⊢ iprop((iprop(owing c 0 ∗ semVal (xCell 2 t c) 0 ∗ owns (c : Thread nD τ) (qrSlot t) fullShare (qOut m ρ (behind t c) t)) -∗ Wp c (k ⟨⟩) Q)
          -∗ Wp c (.op (.waitDma2 sem src dst hsrc hdst) k) Q) :=
  step_wait m ρ K c 2 t hs hN

/-- that for a row of scales to have landed gives the peer's scales. -/
theorem step_wait_sr (t : Fin 3) {sem : DmaSem sig} (hs : sem = xsem 3 t) {s s' : Shape} {e e' : EltTy} {sp sp' : Space}
    {src : Memref sig .tc sp s e} {dst : Memref sig .tc sp' s' e'} {hsrc : src.view.WordExact} {hdst : dst.view.WordExact}
    (hN : dst.view.dmaCredit = xamt 3) {k : PUnit → Prog (TpuEff nD τ sig (Elt F) Λ₀ .tc) α} :
    iprop(rec m ρ K ∗ owing c 0 ∗ cred (tallyAt (xCell 3 t c) () (xamt 3)) ∗ atPos ER (xCell 3 t c) 0 ∅ 0)
      ⊢ iprop((iprop(owing c 0 ∗ semVal (xCell 3 t c) 0 ∗ owns (c : Thread nD τ) (srSlot t) fullShare (sOut m ρ (behind t c) t)) -∗ Wp c (k ⟨⟩) Q)
          -∗ Wp c (.op (.waitDma2 sem src dst hsrc hdst) k) Q) :=
  step_wait m ρ K c 3 t hs hN

end Send

theorem smemLoadElt_bind {α β : Type} {s : Shape} {e : EltTy} (mm : Memref sig .tc .smem s e) (r : Rect s) (h : (mm.access r).Loads) (x : r.shape.Idx)
    (k : Elt F e → Prog (TpuEff nD τ sig (Elt F) Λ₀ .tc) α) (k' : α → Prog (TpuEff nD τ sig (Elt F) Λ₀ .tc) β) :
    (smemLoadElt mm r h x k >>= k') = smemLoadElt mm r h x (fun a => k a >>= k') := rfl

/-- A finished program. -/
theorem step_ret {α : Type} {Q : α → sProp (MT nD τ sig Unit (Elt F) ℕ UU ℕ)} (a : α) : Q a ⊢ Wp c (Prog.ret a) Q := by
  unfold Wp; rw [wp_ret]
  iintro H; imodintro; iexact H

/-- One program after another. -/
theorem step_bind {α β : Type} (p : Prog (TpuEff nD τ sig (Elt F) Λ₀ .tc) α) (k : α → Prog (TpuEff nD τ sig (Elt F) Λ₀ .tc) β)
    (Q : β → sProp (MT nD τ sig Unit (Elt F) ℕ UU ℕ)) : Wp c (p >>= k) Q = Wp c p fun a => Wp c (k a) Q := by
  unfold Wp; rw [wp_bind]

/-- The barrier's semaphore as the program names it. -/
abbrev barArr : Sems sig S_ := SemArray.scalar (sig.barrier 0 (by decide))

/-- The word every device index is reduced from. -/
abbrev place (c : Dev nD) : BitVec 32 := Scalar.remsi (Scalar.divsi (Dev.word c) 1#32) 4#32

/-- The scales, the first fetch and two signals. -/
theorem part1 {Q : (Σ' (d0 : Dev nD) (v2 : BitVec 32) (v5 : F .f32), Sems sig S_) → sProp (MT nD τ sig Unit (Elt F) ℕ UU ℕ)} :
    iprop(rec m ρ K ∗ owing c 9 ∗ aPts m ρ c ∗ bPts m ρ c ∗ wPts m ρ c ∗ free (c : Thread nD τ) (wfSlot 0) ∗ semVal ((c : Thread nD τ), .dma (wsem 0)) 0
        ∗ dutyTok ER (barCell (ahead 0 c)) 0 2 ∗ free (c : Thread nD τ) (qrSlot 2) ∗ free (c : Thread nD τ) (srSlot 2)
        ∗ dutyTok ER (barCell (ahead 1 c)) 0 1 ∗ free (c : Thread nD τ) (qrSlot 1) ∗ free (c : Thread nD τ) (srSlot 1))
      ⊢ iprop((iprop(owing c 7 ∗ aPts m ρ c ∗ bPts m ρ c ∗ fetching m ρ c 0 0) -∗ Q ⟨c, place c, scale m ρ c, barArr⟩)
        -∗ Wp c (k0_part1 (F := F) xM (Memref.isWhole_whole _) wM (Memref.isWhole_whole _) aM (Memref.isWhole_whole _) bM (Memref.isWhole_whole _) oM (Memref.isWhole_whole _)
        wfM (Memref.isWhole_whole _) qsM (Memref.isWhole_whole _) qrM (Memref.isWhole_whole _) ssM (Memref.isWhole_whole _) srM (Memref.isWhole_whole _)
        cc0_scratch5 cc0_scratch6 cc0_scratch7 cc0_scratch8 cc0_scratch9) Q) := by
  rw [k0_part1_eq_skeleton]; unfold k0_part1_skel scale
  simp only [semSignalWord, semWaitWord, smemLoad, smemLoadElt_bind, Prog.lift, Prog.bind_op, Prog.bind_ret, Prog.pure_eq_ret, wp_deviceId]
  iintro ⟨#HR, HO, Ha, Hb, Hw, Hf, Hv, Ht0, Hq2, Hs2, Ht1, Hq1, Hs1⟩ Hk
  iapply (step_a m ρ c) $$ Ha; iintro Ha
  iapply (step_b m ρ c) $$ Hb; iintro Hb
  iapply (step_fetch m ρ c 0 0 rfl rfl rfl) $$ [Hw Hf Hv]
  · isplitl [Hw]; · iexact Hw
    isplitl [Hf]; · iexact Hf
    iexact Hv
  iintro Hf
  iapply (step_signal m ρ K c 0 8 rfl (dev1_eq c) rfl) $$ [HO Ht0 Hq2 Hs2]
  · isplitr; · iexact HR
    isplitl [HO]; · iexact HO
    isplitl [Ht0]; · iexact Ht0
    isplitl [Hq2]; · iexact Hq2
    iexact Hs2
  iintro HO
  iapply (step_signal m ρ K c 1 7 rfl (dev2_eq c) rfl) $$ [HO Ht1 Hq1 Hs1]
  · isplitr; · iexact HR
    isplitl [HO]; · iexact HO
    isplitl [Ht1]; · iexact Ht1
    isplitl [Hq1]; · iexact Hq1
    iexact Hs1
  iintro HO
  iapply (step_ret c)
  iapply Hk
  isplitl [HO]; · iexact HO
  isplitl [Ha]; · iexact Ha
  isplitl [Hb]; · iexact Hb
  iexact Hf

/-- The last signal, the barrier, the second fetch, and the first product. -/
theorem part2 (v2 : BitVec 32)
    {Q : (Σ' (v30 : BitVec 32) (v53 : FVec F S1024x512 .f32), FVec F S1024x512 .f32) → sProp (MT nD τ sig Unit (Elt F) ℕ UU ℕ)} :
    iprop(rec m ρ K ∗ owing c 7 ∗ xPts m ρ c ∗ fetching m ρ c 0 0
        ∗ dutyTok ER (barCell (ahead 2 c)) 0 0 ∗ free (c : Thread nD τ) (qrSlot 0) ∗ free (c : Thread nD τ) (srSlot 0)
        ∗ cred (tallyAt (barCell c) () 3) ∗ atPos ER (barCell c) 0 ∅ 0
        ∗ free (c : Thread nD τ) (wfSlot 1) ∗ semVal ((c : Thread nD τ), .dma (wsem 1)) 0)
      ⊢ iprop((iprop(owing c 6 ∗ xPts m ρ c ∗ semVal (barCell c) 0 ∗ barPay c 0 ∗ barPay c 1 ∗ barPay c 2
          ∗ owns (c : Thread nD τ) (wfSlot 0) fullShare (wIn m ρ c 0) ∗ semVal ((c : Thread nD τ), .dma (wsem 0)) 0 ∗ fetching m ρ c 1 1)
            -∗ Q ⟨Scalar.remsi (Scalar.addi (Scalar.addi v2 1#32) 0#32) 4#32, k0_pay2 (xIn m ρ c) (wIn m ρ c 0), k0_pay3 (xIn m ρ c) (wIn m ρ c 0)⟩)
        -∗ Wp c (k0_part2 (F := F) xM (Memref.isWhole_whole _) wM (Memref.isWhole_whole _) aM (Memref.isWhole_whole _) bM (Memref.isWhole_whole _) oM (Memref.isWhole_whole _)
        wfM (Memref.isWhole_whole _) qsM (Memref.isWhole_whole _) qrM (Memref.isWhole_whole _) ssM (Memref.isWhole_whole _) srM (Memref.isWhole_whole _)
        cc0_scratch5 cc0_scratch6 cc0_scratch7 cc0_scratch8 cc0_scratch9 c v2 (barArr)) Q) := by
  rw [k0_part2_eq_skeleton]; unfold k0_part2_skel
  simp only [semSignalWord, semWaitWord, smemLoad, smemLoadElt_bind, Prog.lift, Prog.bind_op, Prog.bind_ret, Prog.pure_eq_ret, wp_deviceId]
  iintro ⟨#HR, HO, Hx, Hf0, Ht, Hq, Hs, Hc, Hat, Hf1, Hv1⟩ Hk
  iapply (step_signal m ρ K c 2 6 rfl (dev3_eq c) rfl) $$ [HO Ht Hq Hs]
  · isplitr; · iexact HR
    isplitl [HO]; · iexact HO
    isplitl [Ht]; · iexact Ht
    isplitl [Hq]; · iexact Hq
    iexact Hs
  iintro HO
  iapply (step_barrier m ρ K c rfl) $$ [HO Hc Hat]
  · isplitr; · iexact HR
    isplitl [HO]; · iexact HO
    isplitl [Hc]; · iexact Hc
    iexact Hat
  iintro ⟨HO, Hz, Hb0, Hb1, Hb2⟩
  iapply (step_fetched m ρ K c 0 0 6 rfl rfl) $$ [HO Hf0]
  · isplitr; · iexact HR
    isplitl [HO]; · iexact HO
    iexact Hf0
  iintro ⟨HO, Hf0, Hw, Hv0⟩
  iapply (step_fetch m ρ c 1 1 rfl rfl rfl) $$ [Hw Hf1 Hv1]
  · isplitl [Hw]; · iexact Hw
    isplitl [Hf1]; · iexact Hf1
    iexact Hv1
  iintro Hf1
  iapply (step_x m ρ c) $$ Hx; iintro Hx
  iapply (step_load c (mm := wfM) (![(0 : Fin 2).val, 0, 0]) rfl) $$ Hf0; iintro Hf0
  iapply (step_ret c)
  iapply Hk
  isplitl [HO]; · iexact HO
  isplitl [Hx]; · iexact Hx
  isplitl [Hz]; · iexact Hz
  isplitl [Hb0]; · iexact Hb0
  isplitl [Hb1]; · iexact Hb1
  isplitl [Hb2]; · iexact Hb2
  isplitl [Hf0]; · iexact Hf0
  isplitl [Hv0]; · iexact Hv0
  iexact Hf1

/-- The first product is quantised, and sent. -/
theorem part3 (v30 : BitVec 32) :
    iprop(rec m ρ K ∗ owing c 6 ∗ free (c : Thread nD τ) (qsSlot 0) ∗ free (c : Thread nD τ) (ssSlot 0) ∗ free (ahead 0 c : Thread nD τ) (qrSlot 0)
        ∗ dutyTok ER (xCell 0 0 c) 0 0 ∗ dutyTok ER (xCell 2 0 (ahead 0 c)) 0 0)
      ⊢ iprop((iprop(owing c 5 ∗ cred (tallyAt (xCell 0 0 c) () (xamt 0)) ∗ owns (c : Thread nD τ) (ssSlot 0) fullShare (sOut m ρ c 0)) -∗ Q ⟨⟩)
        -∗ Wp c (k0_part3 (F := F) xM (Memref.isWhole_whole _) wM (Memref.isWhole_whole _) aM (Memref.isWhole_whole _) bM (Memref.isWhole_whole _) oM (Memref.isWhole_whole _)
        wfM (Memref.isWhole_whole _) qsM (Memref.isWhole_whole _) qrM (Memref.isWhole_whole _) ssM (Memref.isWhole_whole _) srM (Memref.isWhole_whole _)
        cc0_scratch5 cc0_scratch6 cc0_scratch7 cc0_scratch8 cc0_scratch9
          c (scale m ρ c) v30 (k0_pay2 (xIn m ρ c) (wIn m ρ c 0)) (k0_pay3 (xIn m ρ c) (wIn m ρ c 0))) Q) := by
  rw [k0_part3_eq_skeleton]; unfold k0_part3_skel
  simp only [semSignalWord, semWaitWord, smemLoad, smemLoadElt_bind, Prog.lift, Prog.bind_op, Prog.bind_ret, Prog.pure_eq_ret, wp_deviceId]
  iintro ⟨#HR, HO, Hq, Hs, Hd, Ht0, Ht2⟩ Hk
  iapply (step_load_free c (mm := qsM) (![(0 : Fin 3).val, 0, 0]) rfl) $$ Hq; iintro Hq
  iapply (step_store c (mm := qsM) (![(0 : Fin 3).val, 0, 0]) rfl) $$ Hq; iintro Hq
  iapply (step_load_free c (mm := ssM) (![(0 : Fin 3).val, 0, 0]) rfl) $$ Hs; iintro Hs
  iapply (step_store c (mm := ssM) (![(0 : Fin 3).val, 0, 0]) rfl) $$ Hs; iintro Hs
  iapply (step_send_q m ρ K c 0 5 rfl (dev4_eq c) rfl rfl rfl rfl) $$ [HO Hq Hd Ht0 Ht2]
  · isplitr; · iexact HR
    isplitl [HO]; · iexact HO
    isplitl [Hq]; · iexact Hq
    isplitl [Hd]; · iexact Hd
    isplitl [Ht0]; · iexact Ht0
    iexact Ht2
  iintro ⟨HO, Hc⟩
  iapply (step_ret c)
  iapply Hk
  isplitl [HO]; · iexact HO
  isplitl [Hc]; · iexact Hc
  iexact Hs

end Cert.KernelIdeal.Exchange

end
-- ==== Proof.PartsB.lean ====
/-
# The fourth to the eighth piece of the body

The second and the third column block of `w` are multiplied, quantised and sent, each while the next one is
on its way, and the block the device keeps has arrived.
-/
module

public import proofs.«01_k».proof.Proof.PartsA

@[expose] public section

noncomputable section

namespace Cert.KernelIdeal.Exchange

open Cert.KernelIdeal Cert.KernelIdeal.Gen Cert.Slots
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Cell → ℕ) (c : Dev nD)
variable {Q : PUnit → sProp (MT nD τ sig Unit (Elt F) ℕ UU ℕ)}

/-- The first row of scales is sent, the second block has arrived, and the third is asked for. -/
theorem part4 (v2 : BitVec 32)
    {Q : (Σ' (v96 : BitVec 32), Vec F S1024x4096 .f32) → sProp (MT nD τ sig Unit (Elt F) ℕ UU ℕ)} :
    iprop(rec m ρ K
        ∗ owing c 5
        ∗ xPts m ρ c
        ∗ owns (c : Thread nD τ) (ssSlot 0) fullShare (sOut m ρ c 0)
        ∗ free (ahead 0 c : Thread nD τ) (srSlot 0)
        ∗ dutyTok ER (xCell 1 0 c) 0 0
        ∗ dutyTok ER (xCell 3 0 (ahead 0 c)) 0 0
        ∗ fetching m ρ c 1 1
        ∗ owns (c : Thread nD τ) (wfSlot 0) fullShare (wIn m ρ c 0)
        ∗ semVal ((c : Thread nD τ), .dma (wsem 0)) 0)
      ⊢ iprop((iprop(owing c 4
          ∗ xPts m ρ c
          ∗ cred (tallyAt (xCell 1 0 c) () (xamt 1))
          ∗ owns (c : Thread nD τ) (wfSlot 1) fullShare (wIn m ρ c 1)
          ∗ semVal ((c : Thread nD τ), .dma (wsem 1)) 0
          ∗ fetching m ρ c 0 2)
            -∗ Q ⟨Scalar.remsi (Scalar.addi (Scalar.addi v2 1#32) 1#32) 4#32, xIn m ρ c⟩)
        -∗ Wp c (k0_part4 (F := F) xM (Memref.isWhole_whole _) wM (Memref.isWhole_whole _) aM (Memref.isWhole_whole _) bM (Memref.isWhole_whole _) oM (Memref.isWhole_whole _)
        wfM (Memref.isWhole_whole _) qsM (Memref.isWhole_whole _) qrM (Memref.isWhole_whole _) ssM (Memref.isWhole_whole _) srM (Memref.isWhole_whole _)
        cc0_scratch5 cc0_scratch6 cc0_scratch7 cc0_scratch8 cc0_scratch9
          c v2) Q) := by
  rw [k0_part4_eq_skeleton]; unfold k0_part4_skel
  simp only [semSignalWord, semWaitWord, smemLoad, smemLoadElt_bind, Prog.lift, Prog.bind_op, Prog.bind_ret, Prog.pure_eq_ret, wp_deviceId]
  iintro ⟨#HR, HO, Hx, Hs, Hd, Ht0, Ht2, Hf1, Hf0, Hv0⟩ Hk
  iapply (step_send_s m ρ K c 0 4 rfl (dev5_eq c) rfl rfl rfl rfl) $$ [HO Hs Hd Ht0 Ht2]
  · isplitr; · iexact HR
    isplitl [HO]; · iexact HO
    isplitl [Hs]; · iexact Hs
    isplitl [Hd]; · iexact Hd
    isplitl [Ht0]; · iexact Ht0
    iexact Ht2
  iintro ⟨HO, Hc⟩
  iapply (step_fetched m ρ K c 1 1 4 (dst := wSq 1) rfl rfl) $$ [HO Hf1]
  · isplitr; · iexact HR
    isplitl [HO]; · iexact HO
    iexact Hf1
  iintro ⟨HO, Hf1, Hw, Hv1⟩
  ihave Hf0 := (owns_free (c : Thread nD τ) (wfSlot 0)) $$ Hf0
  iapply (step_fetch m ρ c 0 2 rfl rfl rfl) $$ [Hw Hf0 Hv0]
  · isplitl [Hw]; · iexact Hw
    isplitl [Hf0]; · iexact Hf0
    iexact Hv0
  iintro Hf0
  iapply (step_x m ρ c) $$ Hx
  iintro Hx
  iapply (step_ret c)
  iapply Hk
  isplitl [HO]; · iexact HO
  isplitl [Hx]; · iexact Hx
  isplitl [Hc]; · iexact Hc
  isplitl [Hf1]; · iexact Hf1
  isplitl [Hv1]; · iexact Hv1
  iexact Hf0

/-- The second product is quantised. -/
theorem part5 (v96 : BitVec 32) :
    iprop(owns (c : Thread nD τ) (wfSlot 1) fullShare (wIn m ρ c 1)
        ∗ free (c : Thread nD τ) (qsSlot 1)
        ∗ free (c : Thread nD τ) (ssSlot 1))
      ⊢ iprop((iprop(owns (c : Thread nD τ) (wfSlot 1) fullShare (wIn m ρ c 1)
          ∗ owns (c : Thread nD τ) (qsSlot 1) fullShare (qOut m ρ c 1)
          ∗ owns (c : Thread nD τ) (ssSlot 1) fullShare (sOut m ρ c 1))
            -∗ Q ⟨⟩)
        -∗ Wp c (k0_part5 (F := F) xM (Memref.isWhole_whole _) wM (Memref.isWhole_whole _) aM (Memref.isWhole_whole _) bM (Memref.isWhole_whole _) oM (Memref.isWhole_whole _)
        wfM (Memref.isWhole_whole _) qsM (Memref.isWhole_whole _) qrM (Memref.isWhole_whole _) ssM (Memref.isWhole_whole _) srM (Memref.isWhole_whole _)
        cc0_scratch5 cc0_scratch6 cc0_scratch7 cc0_scratch8 cc0_scratch9
          (scale m ρ c) v96 (xIn m ρ c)) Q) := by
  rw [k0_part5_eq_skeleton]; unfold k0_part5_skel
  simp only [semSignalWord, semWaitWord, smemLoad, smemLoadElt_bind, Prog.lift, Prog.bind_op, Prog.bind_ret, Prog.pure_eq_ret, wp_deviceId]
  iintro ⟨Hf1, Hq, Hs⟩ Hk
  iapply (step_load c (mm := wfM) (![(1 : Fin 2).val, 0, 0]) rfl) $$ Hf1
  iintro Hf1
  iapply (step_load_free c (mm := qsM) (![(1 : Fin 3).val, 0, 0]) rfl) $$ Hq
  iintro Hq
  iapply (step_store c (mm := qsM) (![(1 : Fin 3).val, 0, 0]) rfl) $$ Hq
  iintro Hq
  iapply (step_load_free c (mm := ssM) (![(1 : Fin 3).val, 0, 0]) rfl) $$ Hs
  iintro Hs
  iapply (step_store c (mm := ssM) (![(1 : Fin 3).val, 0, 0]) rfl) $$ Hs
  iintro Hs
  iapply (step_ret c)
  iapply Hk
  isplitl [Hf1]; · iexact Hf1
  isplitl [Hq]; · iexact Hq
  iexact Hs

/-- The second product and its scales are sent, and the third block has arrived. -/
theorem part6 (v2 v96 : BitVec 32)
    {Q : (BitVec 32) → sProp (MT nD τ sig Unit (Elt F) ℕ UU ℕ)} :
    iprop(rec m ρ K
        ∗ owing c 4
        ∗ owns (c : Thread nD τ) (qsSlot 1) fullShare (qOut m ρ c 1)
        ∗ owns (c : Thread nD τ) (ssSlot 1) fullShare (sOut m ρ c 1)
        ∗ free (ahead 1 c : Thread nD τ) (qrSlot 1)
        ∗ free (ahead 1 c : Thread nD τ) (srSlot 1)
        ∗ dutyTok ER (xCell 0 1 c) 0 0
        ∗ dutyTok ER (xCell 1 1 c) 0 0
        ∗ dutyTok ER (xCell 2 1 (ahead 1 c)) 0 0
        ∗ dutyTok ER (xCell 3 1 (ahead 1 c)) 0 0
        ∗ fetching m ρ c 0 2)
      ⊢ iprop((iprop(owing c 2
          ∗ cred (tallyAt (xCell 0 1 c) () (xamt 0))
          ∗ cred (tallyAt (xCell 1 1 c) () (xamt 1))
          ∗ owns (c : Thread nD τ) (wfSlot 0) fullShare (wIn m ρ c 2)
          ∗ wPts m ρ c
          ∗ semVal ((c : Thread nD τ), .dma (wsem 0)) 0)
            -∗ Q (Scalar.remsi (Scalar.addi (Scalar.addi v2 1#32) 2#32) 4#32))
        -∗ Wp c (k0_part6 (F := F) xM (Memref.isWhole_whole _) wM (Memref.isWhole_whole _) aM (Memref.isWhole_whole _) bM (Memref.isWhole_whole _) oM (Memref.isWhole_whole _)
        wfM (Memref.isWhole_whole _) qsM (Memref.isWhole_whole _) qrM (Memref.isWhole_whole _) ssM (Memref.isWhole_whole _) srM (Memref.isWhole_whole _)
        cc0_scratch5 cc0_scratch6 cc0_scratch7 cc0_scratch8 cc0_scratch9
          c v2 v96) Q) := by
  rw [k0_part6_eq_skeleton]; unfold k0_part6_skel
  simp only [semSignalWord, semWaitWord, smemLoad, smemLoadElt_bind, Prog.lift, Prog.bind_op, Prog.bind_ret, Prog.pure_eq_ret, wp_deviceId]
  iintro ⟨#HR, HO, Hq, Hs, Hdq, Hds, Ht0, Ht1, Ht2, Ht3, Hf0⟩ Hk
  iapply (step_send_q m ρ K c 1 3 rfl (dev6_eq c) rfl rfl rfl rfl) $$ [HO Hq Hdq Ht0 Ht2]
  · isplitr; · iexact HR
    isplitl [HO]; · iexact HO
    isplitl [Hq]; · iexact Hq
    isplitl [Hdq]; · iexact Hdq
    isplitl [Ht0]; · iexact Ht0
    iexact Ht2
  iintro ⟨HO, Hc0⟩
  iapply (step_send_s m ρ K c 1 2 rfl (dev7_eq c) rfl rfl rfl rfl) $$ [HO Hs Hds Ht1 Ht3]
  · isplitr; · iexact HR
    isplitl [HO]; · iexact HO
    isplitl [Hs]; · iexact Hs
    isplitl [Hds]; · iexact Hds
    isplitl [Ht1]; · iexact Ht1
    iexact Ht3
  iintro ⟨HO, Hc1⟩
  iapply (step_fetched m ρ K c 0 2 2 (dst := wSq 0) rfl rfl) $$ [HO Hf0]
  · isplitr; · iexact HR
    isplitl [HO]; · iexact HO
    iexact Hf0
  iintro ⟨HO, Hf0, Hw, Hv0⟩
  iapply (step_ret c)
  iapply Hk
  isplitl [HO]; · iexact HO
  isplitl [Hc0]; · iexact Hc0
  isplitl [Hc1]; · iexact Hc1
  isplitl [Hf0]; · iexact Hf0
  isplitl [Hw]; · iexact Hw
  iexact Hv0

/-- The last block is asked for, and the third product is quantised. -/
theorem part7 (v162 : BitVec 32) :
    iprop(wPts m ρ c
        ∗ owns (c : Thread nD τ) (wfSlot 1) fullShare (wIn m ρ c 1)
        ∗ semVal ((c : Thread nD τ), .dma (wsem 1)) 0
        ∗ xPts m ρ c
        ∗ owns (c : Thread nD τ) (wfSlot 0) fullShare (wIn m ρ c 2)
        ∗ free (c : Thread nD τ) (qsSlot 2)
        ∗ free (c : Thread nD τ) (ssSlot 2))
      ⊢ iprop((iprop(fetching m ρ c 1 3
          ∗ xPts m ρ c
          ∗ owns (c : Thread nD τ) (wfSlot 0) fullShare (wIn m ρ c 2)
          ∗ owns (c : Thread nD τ) (qsSlot 2) fullShare (qOut m ρ c 2)
          ∗ owns (c : Thread nD τ) (ssSlot 2) fullShare (sOut m ρ c 2))
            -∗ Q ⟨⟩)
        -∗ Wp c (k0_part7 (F := F) xM (Memref.isWhole_whole _) wM (Memref.isWhole_whole _) aM (Memref.isWhole_whole _) bM (Memref.isWhole_whole _) oM (Memref.isWhole_whole _)
        wfM (Memref.isWhole_whole _) qsM (Memref.isWhole_whole _) qrM (Memref.isWhole_whole _) ssM (Memref.isWhole_whole _) srM (Memref.isWhole_whole _)
        cc0_scratch5 cc0_scratch6 cc0_scratch7 cc0_scratch8 cc0_scratch9
          c (scale m ρ c) v162) Q) := by
  rw [k0_part7_eq_skeleton]; unfold k0_part7_skel
  simp only [semSignalWord, semWaitWord, smemLoad, smemLoadElt_bind, Prog.lift, Prog.bind_op, Prog.bind_ret, Prog.pure_eq_ret, wp_deviceId]
  iintro ⟨Hw, Hf1, Hv1, Hx, Hf0, Hq, Hs⟩ Hk
  ihave Hf1 := (owns_free (c : Thread nD τ) (wfSlot 1)) $$ Hf1
  iapply (step_fetch m ρ c 1 3 rfl rfl rfl) $$ [Hw Hf1 Hv1]
  · isplitl [Hw]; · iexact Hw
    isplitl [Hf1]; · iexact Hf1
    iexact Hv1
  iintro Hf1
  iapply (step_x m ρ c) $$ Hx
  iintro Hx
  iapply (step_load c (mm := wfM) (![(0 : Fin 2).val, 0, 0]) rfl) $$ Hf0
  iintro Hf0
  iapply (step_load_free c (mm := qsM) (![(2 : Fin 3).val, 0, 0]) rfl) $$ Hq
  iintro Hq
  iapply (step_store c (mm := qsM) (![(2 : Fin 3).val, 0, 0]) rfl) $$ Hq
  iintro Hq
  iapply (step_load_free c (mm := ssM) (![(2 : Fin 3).val, 0, 0]) rfl) $$ Hs
  iintro Hs
  iapply (step_store c (mm := ssM) (![(2 : Fin 3).val, 0, 0]) rfl) $$ Hs
  iintro Hs
  iapply (step_ret c)
  iapply Hk
  isplitl [Hf1]; · iexact Hf1
  isplitl [Hx]; · iexact Hx
  isplitl [Hf0]; · iexact Hf0
  isplitl [Hq]; · iexact Hq
  iexact Hs

/-- The third product and its scales are sent, and the block that stays has arrived. -/
theorem part8 (v2 v162 : BitVec 32)
    {Q : (Σ' (v236 : FVec F S1024x4096 .f32) (v238 : FVec F S4096x512 .f32), FVec F S1024x512 .f32) → sProp (MT nD τ sig Unit (Elt F) ℕ UU ℕ)} :
    iprop(rec m ρ K
        ∗ owing c 2
        ∗ owns (c : Thread nD τ) (qsSlot 2) fullShare (qOut m ρ c 2)
        ∗ owns (c : Thread nD τ) (ssSlot 2) fullShare (sOut m ρ c 2)
        ∗ free (ahead 2 c : Thread nD τ) (qrSlot 2)
        ∗ free (ahead 2 c : Thread nD τ) (srSlot 2)
        ∗ dutyTok ER (xCell 0 2 c) 0 0
        ∗ dutyTok ER (xCell 1 2 c) 0 0
        ∗ dutyTok ER (xCell 2 2 (ahead 2 c)) 0 0
        ∗ dutyTok ER (xCell 3 2 (ahead 2 c)) 0 0
        ∗ fetching m ρ c 1 3
        ∗ xPts m ρ c)
      ⊢ iprop((iprop(owing c 0
          ∗ cred (tallyAt (xCell 0 2 c) () (xamt 0))
          ∗ cred (tallyAt (xCell 1 2 c) () (xamt 1))
          ∗ owns (c : Thread nD τ) (wfSlot 1) fullShare (wIn m ρ c 3)
          ∗ wPts m ρ c
          ∗ semVal ((c : Thread nD τ), .dma (wsem 1)) 0
          ∗ xPts m ρ c)
            -∗ Q ⟨k0_pay15 (xIn m ρ c), k0_pay16 (wIn m ρ c 3), constant S1024x512 .f32 0x00000000#32⟩)
        -∗ Wp c (k0_part8 (F := F) xM (Memref.isWhole_whole _) wM (Memref.isWhole_whole _) aM (Memref.isWhole_whole _) bM (Memref.isWhole_whole _) oM (Memref.isWhole_whole _)
        wfM (Memref.isWhole_whole _) qsM (Memref.isWhole_whole _) qrM (Memref.isWhole_whole _) ssM (Memref.isWhole_whole _) srM (Memref.isWhole_whole _)
        cc0_scratch5 cc0_scratch6 cc0_scratch7 cc0_scratch8 cc0_scratch9
          c v2 v162) Q) := by
  rw [k0_part8_eq_skeleton]; unfold k0_part8_skel
  simp only [semSignalWord, semWaitWord, smemLoad, smemLoadElt_bind, Prog.lift, Prog.bind_op, Prog.bind_ret, Prog.pure_eq_ret, wp_deviceId]
  iintro ⟨#HR, HO, Hq, Hs, Hdq, Hds, Ht0, Ht1, Ht2, Ht3, Hf1, Hx⟩ Hk
  iapply (step_send_q m ρ K c 2 1 rfl (dev8_eq c) rfl rfl rfl rfl) $$ [HO Hq Hdq Ht0 Ht2]
  · isplitr; · iexact HR
    isplitl [HO]; · iexact HO
    isplitl [Hq]; · iexact Hq
    isplitl [Hdq]; · iexact Hdq
    isplitl [Ht0]; · iexact Ht0
    iexact Ht2
  iintro ⟨HO, Hc0⟩
  iapply (step_send_s m ρ K c 2 0 rfl (dev9_eq c) rfl rfl rfl rfl) $$ [HO Hs Hds Ht1 Ht3]
  · isplitr; · iexact HR
    isplitl [HO]; · iexact HO
    isplitl [Hs]; · iexact Hs
    isplitl [Hds]; · iexact Hds
    isplitl [Ht1]; · iexact Ht1
    iexact Ht3
  iintro ⟨HO, Hc1⟩
  iapply (step_fetched m ρ K c 1 3 0 (dst := wSq 1) rfl rfl) $$ [HO Hf1]
  · isplitr; · iexact HR
    isplitl [HO]; · iexact HO
    iexact Hf1
  iintro ⟨HO, Hf1, Hw, Hv1⟩
  iapply (step_x m ρ c) $$ Hx
  iintro Hx
  iapply (step_load c (mm := wfM) (![(1 : Fin 2).val, 0, 0]) rfl) $$ Hf1
  iintro Hf1
  iapply (step_ret c)
  iapply Hk
  isplitl [HO]; · iexact HO
  isplitl [Hc0]; · iexact Hc0
  isplitl [Hc1]; · iexact Hc1
  isplitl [Hf1]; · iexact Hf1
  isplitl [Hw]; · iexact Hw
  isplitl [Hv1]; · iexact Hv1
  iexact Hx

end Cert.KernelIdeal.Exchange

end
-- ==== Proof.PartsC.lean ====
/-
# The last pieces of the body

The block the device keeps is written to the result, the three received blocks are decoded into it as they
arrive, and the device's own transfers are waited for.
-/
module

public import proofs.«01_k».proof.Proof.PartsB

@[expose] public section

noncomputable section

namespace Cert.KernelIdeal.Exchange

open Cert.KernelIdeal Cert.KernelIdeal.Gen Cert.Slots
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Cell → ℕ) (c : Dev nD)
variable {Q : PUnit → sProp (MT nD τ sig Unit (Elt F) ℕ UU ℕ)}

/-- The rows of the result a device computes alone. -/
abbrev ownRect : Rect S4096x512 := Rect.unit (s := S4096x512) (k0_off2 c) S1024x512.size (k0_off2_inb c)
/-- The rows of the result that step `t`'s peer sends. -/
abbrev gotRect (t : Fin 3) : Rect S4096x512 := Rect.unit (s := S4096x512) (k0_off3 c (BitVec.ofNat 32 t.val)) S1024x512.size (k0_off3_inb c t)

/-- The result, block by block. -/
abbrev out0 (f : (cc0_stg3_0 : Ref sig .tc).ty.Contents (Elt F)) := put (ownRect c) f (ownPart m ρ c)
abbrev out1 (f : (cc0_stg3_0 : Ref sig .tc).ty.Contents (Elt F)) := put (gotRect c 0) (out0 m ρ c f) (gotPart m ρ c 0)
abbrev out2 (f : (cc0_stg3_0 : Ref sig .tc).ty.Contents (Elt F)) := put (gotRect c 1) (out1 m ρ c f) (gotPart m ρ c 1)
abbrev out3 (f : (cc0_stg3_0 : Ref sig .tc).ty.Contents (Elt F)) := put (gotRect c 2) (out2 m ρ c f) (gotPart m ρ c 2)

/-- The kept block is written, and the first received block has landed. -/
theorem part9 (f : (cc0_stg3_0 : Ref sig .tc).ty.Contents (Elt F)) (v2 : BitVec 32)
    {Q : (Σ' (v265 : BitVec 32), Vec F S1x1024x512 .i8) → sProp (MT nD τ sig Unit (Elt F) ℕ UU ℕ)} :
    iprop(rec m ρ K
        ∗ owing c 0
        ∗ oPts c f
        ∗ cred (tallyAt (xCell 2 0 c) () (xamt 2))
        ∗ atPos ER (xCell 2 0 c) 0 ∅ 0
        ∗ cred (tallyAt (xCell 3 0 c) () (xamt 3))
        ∗ atPos ER (xCell 3 0 c) 0 ∅ 0)
      ⊢ iprop((iprop(owing c 0
          ∗ oPts c (out0 m ρ c f)
          ∗ semVal (xCell 2 0 c) 0
          ∗ owns (c : Thread nD τ) (qrSlot 0) fullShare (qOut m ρ (behind 0 c) 0)
          ∗ semVal (xCell 3 0 c) 0
          ∗ owns (c : Thread nD τ) (srSlot 0) fullShare (sOut m ρ (behind 0 c) 0))
            -∗ Q ⟨Scalar.remsi (Scalar.subi (Scalar.addi v2 3#32) 0#32) 4#32, qOut m ρ (behind 0 c) 0⟩)
        -∗ Wp c (k0_part9 (F := F) xM (Memref.isWhole_whole _) wM (Memref.isWhole_whole _) aM (Memref.isWhole_whole _) bM (Memref.isWhole_whole _) oM (Memref.isWhole_whole _)
        wfM (Memref.isWhole_whole _) qsM (Memref.isWhole_whole _) qrM (Memref.isWhole_whole _) ssM (Memref.isWhole_whole _) srM (Memref.isWhole_whole _)
        cc0_scratch5 cc0_scratch6 cc0_scratch7 cc0_scratch8 cc0_scratch9
          c v2 (scale m ρ c) (k0_pay15 (xIn m ρ c)) (k0_pay16 (wIn m ρ c 3)) (constant S1024x512 .f32 0x00000000#32)) Q) := by
  rw [k0_part9_eq_skeleton]; unfold k0_part9_skel
  simp only [semSignalWord, semWaitWord, smemLoad, smemLoadElt_bind, Prog.lift, Prog.bind_op, Prog.bind_ret, Prog.pure_eq_ret, wp_deviceId]
  iintro ⟨#HR, HO, Ho, Hc2, Ha2, Hc3, Ha3⟩ Hk
  iapply (step_oload c _) $$ Ho
  iintro Ho
  iapply (step_ostore c _) $$ Ho
  iintro Ho
  iapply (step_wait_qr m ρ K c 0 (dst := (qrSlot 0).squeeze S1024x512 squeezes_S1x1024x512_S1024x512) rfl rfl) $$ [HO Hc2 Ha2]
  · isplitr; · iexact HR
    isplitl [HO]; · iexact HO
    isplitl [Hc2]; · iexact Hc2
    iexact Ha2
  iintro ⟨HO, Hz2, Hq⟩
  iapply (step_wait_sr m ρ K c 0 (dst := (srSlot 0).squeeze S1x512 squeezes_S1x1x512_S1x512) rfl rfl) $$ [HO Hc3 Ha3]
  · isplitr; · iexact HR
    isplitl [HO]; · iexact HO
    isplitl [Hc3]; · iexact Hc3
    iexact Ha3
  iintro ⟨HO, Hz3, Hs⟩
  iapply (step_load c (mm := qrM) (![(0 : Fin 3).val, 0, 0]) rfl) $$ Hq
  iintro Hq
  iapply (step_ret c)
  iapply Hk
  isplitl [HO]; · iexact HO
  isplitl [Ho]; · iexact Ho
  isplitl [Hz2]; · iexact Hz2
  isplitl [Hq]; · iexact Hq
  isplitl [Hz3]; · iexact Hz3
  iexact Hs

/-- The first received block is decoded, and the second has landed. -/
theorem part10 (f : (cc0_stg3_0 : Ref sig .tc).ty.Contents (Elt F)) (v2 v265 : BitVec 32)
    {Q : (BitVec 32) → sProp (MT nD τ sig Unit (Elt F) ℕ UU ℕ)} :
    iprop(rec m ρ K
        ∗ owing c 0
        ∗ oPts c (out0 m ρ c f)
        ∗ owns (c : Thread nD τ) (srSlot 0) fullShare (sOut m ρ (behind 0 c) 0)
        ∗ cred (tallyAt (xCell 2 1 c) () (xamt 2))
        ∗ atPos ER (xCell 2 1 c) 0 ∅ 0
        ∗ cred (tallyAt (xCell 3 1 c) () (xamt 3))
        ∗ atPos ER (xCell 3 1 c) 0 ∅ 0)
      ⊢ iprop((iprop(owing c 0
          ∗ oPts c (out1 m ρ c f)
          ∗ owns (c : Thread nD τ) (srSlot 0) fullShare (sOut m ρ (behind 0 c) 0)
          ∗ semVal (xCell 2 1 c) 0
          ∗ owns (c : Thread nD τ) (qrSlot 1) fullShare (qOut m ρ (behind 1 c) 1)
          ∗ semVal (xCell 3 1 c) 0
          ∗ owns (c : Thread nD τ) (srSlot 1) fullShare (sOut m ρ (behind 1 c) 1))
            -∗ Q (Scalar.subi (Scalar.addi v2 3#32) 1#32))
        -∗ Wp c (k0_part10 (F := F) xM (Memref.isWhole_whole _) wM (Memref.isWhole_whole _) aM (Memref.isWhole_whole _) bM (Memref.isWhole_whole _) oM (Memref.isWhole_whole _)
        wfM (Memref.isWhole_whole _) qsM (Memref.isWhole_whole _) qrM (Memref.isWhole_whole _) ssM (Memref.isWhole_whole _) srM (Memref.isWhole_whole _)
        cc0_scratch5 cc0_scratch6 cc0_scratch7 cc0_scratch8 cc0_scratch9
          c v2 v265 (qOut m ρ (behind 0 c) 0)) Q) := by
  rw [k0_part10_eq_skeleton]; unfold k0_part10_skel
  simp only [semSignalWord, semWaitWord, smemLoad, smemLoadElt_bind, Prog.lift, Prog.bind_op, Prog.bind_ret, Prog.pure_eq_ret, wp_deviceId]
  iintro ⟨#HR, HO, Ho, Hs, Hc2, Ha2, Hc3, Ha3⟩ Hk
  iapply (step_load c (mm := srM) (![(0 : Fin 3).val, 0, 0]) rfl) $$ Hs
  iintro Hs
  iapply (step_oload c _) $$ Ho
  iintro Ho
  iapply (step_ostore c _) $$ Ho
  iintro Ho
  iapply (step_wait_qr m ρ K c 1 (dst := (qrSlot 1).squeeze S1024x512 squeezes_S1x1024x512_S1024x512) rfl rfl) $$ [HO Hc2 Ha2]
  · isplitr; · iexact HR
    isplitl [HO]; · iexact HO
    isplitl [Hc2]; · iexact Hc2
    iexact Ha2
  iintro ⟨HO, Hz2, Hq⟩
  iapply (step_wait_sr m ρ K c 1 (dst := (srSlot 1).squeeze S1x512 squeezes_S1x1x512_S1x512) rfl rfl) $$ [HO Hc3 Ha3]
  · isplitr; · iexact HR
    isplitl [HO]; · iexact HO
    isplitl [Hc3]; · iexact Hc3
    iexact Ha3
  iintro ⟨HO, Hz3, Hs1⟩
  iapply (step_ret c)
  iapply Hk
  isplitl [HO]; · iexact HO
  isplitl [Ho]; · iexact Ho
  isplitl [Hs]; · iexact Hs
  isplitl [Hz2]; · iexact Hz2
  isplitl [Hq]; · iexact Hq
  isplitl [Hz3]; · iexact Hz3
  iexact Hs1

/-- The second received block is decoded, and the third product has landed. -/
theorem part11 (f : (cc0_stg3_0 : Ref sig .tc).ty.Contents (Elt F)) (v2 v295 : BitVec 32) :
    iprop(rec m ρ K
        ∗ owing c 0
        ∗ oPts c (out1 m ρ c f)
        ∗ owns (c : Thread nD τ) (qrSlot 1) fullShare (qOut m ρ (behind 1 c) 1)
        ∗ owns (c : Thread nD τ) (srSlot 1) fullShare (sOut m ρ (behind 1 c) 1)
        ∗ cred (tallyAt (xCell 2 2 c) () (xamt 2))
        ∗ atPos ER (xCell 2 2 c) 0 ∅ 0)
      ⊢ iprop((iprop(owing c 0
          ∗ oPts c (out2 m ρ c f)
          ∗ owns (c : Thread nD τ) (qrSlot 1) fullShare (qOut m ρ (behind 1 c) 1)
          ∗ owns (c : Thread nD τ) (srSlot 1) fullShare (sOut m ρ (behind 1 c) 1)
          ∗ semVal (xCell 2 2 c) 0
          ∗ owns (c : Thread nD τ) (qrSlot 2) fullShare (qOut m ρ (behind 2 c) 2))
            -∗ Q ⟨⟩)
        -∗ Wp c (k0_part11 (F := F) xM (Memref.isWhole_whole _) wM (Memref.isWhole_whole _) aM (Memref.isWhole_whole _) bM (Memref.isWhole_whole _) oM (Memref.isWhole_whole _)
        wfM (Memref.isWhole_whole _) qsM (Memref.isWhole_whole _) qrM (Memref.isWhole_whole _) ssM (Memref.isWhole_whole _) srM (Memref.isWhole_whole _)
        cc0_scratch5 cc0_scratch6 cc0_scratch7 cc0_scratch8 cc0_scratch9
          c v2 v295) Q) := by
  rw [k0_part11_eq_skeleton]; unfold k0_part11_skel
  simp only [semSignalWord, semWaitWord, smemLoad, smemLoadElt_bind, Prog.lift, Prog.bind_op, Prog.bind_ret, Prog.pure_eq_ret, wp_deviceId]
  iintro ⟨#HR, HO, Ho, Hq, Hs, Hc2, Ha2⟩ Hk
  iapply (step_load c (mm := qrM) (![(1 : Fin 3).val, 0, 0]) rfl) $$ Hq
  iintro Hq
  iapply (step_load c (mm := srM) (![(1 : Fin 3).val, 0, 0]) rfl) $$ Hs
  iintro Hs
  iapply (step_oload c _) $$ Ho
  iintro Ho
  iapply (step_ostore c _) $$ Ho
  iintro Ho
  iapply (step_wait_qr m ρ K c 2 (dst := (qrSlot 2).squeeze S1024x512 squeezes_S1x1024x512_S1024x512) rfl rfl) $$ [HO Hc2 Ha2]
  · isplitr; · iexact HR
    isplitl [HO]; · iexact HO
    isplitl [Hc2]; · iexact Hc2
    iexact Ha2
  iintro ⟨HO, Hz2, Hq2⟩
  iapply (step_ret c)
  iapply Hk
  isplitl [HO]; · iexact HO
  isplitl [Ho]; · iexact Ho
  isplitl [Hq]; · iexact Hq
  isplitl [Hs]; · iexact Hs
  isplitl [Hz2]; · iexact Hz2
  iexact Hq2

/-- The third received block is decoded, and the first product has left. -/
theorem part12 (f : (cc0_stg3_0 : Ref sig .tc).ty.Contents (Elt F)) (v2 : BitVec 32) :
    iprop(rec m ρ K
        ∗ owing c 0
        ∗ oPts c (out2 m ρ c f)
        ∗ owns (c : Thread nD τ) (qrSlot 2) fullShare (qOut m ρ (behind 2 c) 2)
        ∗ cred (tallyAt (xCell 3 2 c) () (xamt 3))
        ∗ atPos ER (xCell 3 2 c) 0 ∅ 0
        ∗ cred (tallyAt (xCell 0 0 c) () (xamt 0))
        ∗ atPos ER (xCell 0 0 c) 0 ∅ 0)
      ⊢ iprop((iprop(owing c 0
          ∗ oPts c (out3 m ρ c f)
          ∗ owns (c : Thread nD τ) (qrSlot 2) fullShare (qOut m ρ (behind 2 c) 2)
          ∗ semVal (xCell 3 2 c) 0
          ∗ owns (c : Thread nD τ) (srSlot 2) fullShare (sOut m ρ (behind 2 c) 2)
          ∗ semVal (xCell 0 0 c) 0
          ∗ owns (c : Thread nD τ) (qsSlot 0) fullShare (qOut m ρ c 0))
            -∗ Q ⟨⟩)
        -∗ Wp c (k0_part12 (F := F) xM (Memref.isWhole_whole _) wM (Memref.isWhole_whole _) aM (Memref.isWhole_whole _) bM (Memref.isWhole_whole _) oM (Memref.isWhole_whole _)
        wfM (Memref.isWhole_whole _) qsM (Memref.isWhole_whole _) qrM (Memref.isWhole_whole _) ssM (Memref.isWhole_whole _) srM (Memref.isWhole_whole _)
        cc0_scratch5 cc0_scratch6 cc0_scratch7 cc0_scratch8 cc0_scratch9
          c v2) Q) := by
  rw [k0_part12_eq_skeleton]; unfold k0_part12_skel
  simp only [semSignalWord, semWaitWord, smemLoad, smemLoadElt_bind, Prog.lift, Prog.bind_op, Prog.bind_ret, Prog.pure_eq_ret, wp_deviceId]
  iintro ⟨#HR, HO, Ho, Hq, Hc3, Ha3, Hc0, Ha0⟩ Hk
  iapply (step_wait_sr m ρ K c 2 (dst := (srSlot 2).squeeze S1x512 squeezes_S1x1x512_S1x512) rfl rfl) $$ [HO Hc3 Ha3]
  · isplitr; · iexact HR
    isplitl [HO]; · iexact HO
    isplitl [Hc3]; · iexact Hc3
    iexact Ha3
  iintro ⟨HO, Hz3, Hs⟩
  iapply (step_load c (mm := qrM) (![(2 : Fin 3).val, 0, 0]) rfl) $$ Hq
  iintro Hq
  iapply (step_load c (mm := srM) (![(2 : Fin 3).val, 0, 0]) rfl) $$ Hs
  iintro Hs
  iapply (step_oload c _) $$ Ho
  iintro Ho
  iapply (step_ostore c _) $$ Ho
  iintro Ho
  iapply (step_wait_q m ρ K c 0 (dst := (qsSlot 0).squeeze S1024x512 squeezes_S1x1024x512_S1024x512) rfl rfl) $$ [HO Hc0 Ha0]
  · isplitr; · iexact HR
    isplitl [HO]; · iexact HO
    isplitl [Hc0]; · iexact Hc0
    iexact Ha0
  iintro ⟨HO, Hz0, Hq0⟩
  iapply (step_ret c)
  iapply Hk
  isplitl [HO]; · iexact HO
  isplitl [Ho]; · iexact Ho
  isplitl [Hq]; · iexact Hq
  isplitl [Hz3]; · iexact Hz3
  isplitl [Hs]; · iexact Hs
  isplitl [Hz0]; · iexact Hz0
  iexact Hq0

/-- Everything but the last row of scales has left. -/
theorem part13 :
    iprop(rec m ρ K
        ∗ owing c 0
        ∗ cred (tallyAt (xCell 1 0 c) () (xamt 1))
        ∗ atPos ER (xCell 1 0 c) 0 ∅ 0
        ∗ cred (tallyAt (xCell 0 1 c) () (xamt 0))
        ∗ atPos ER (xCell 0 1 c) 0 ∅ 0
        ∗ cred (tallyAt (xCell 1 1 c) () (xamt 1))
        ∗ atPos ER (xCell 1 1 c) 0 ∅ 0
        ∗ cred (tallyAt (xCell 0 2 c) () (xamt 0))
        ∗ atPos ER (xCell 0 2 c) 0 ∅ 0)
      ⊢ iprop((iprop(owing c 0
          ∗ semVal (xCell 1 0 c) 0
          ∗ owns (c : Thread nD τ) (ssSlot 0) fullShare (sOut m ρ c 0)
          ∗ semVal (xCell 0 1 c) 0
          ∗ owns (c : Thread nD τ) (qsSlot 1) fullShare (qOut m ρ c 1)
          ∗ semVal (xCell 1 1 c) 0
          ∗ owns (c : Thread nD τ) (ssSlot 1) fullShare (sOut m ρ c 1)
          ∗ semVal (xCell 0 2 c) 0
          ∗ owns (c : Thread nD τ) (qsSlot 2) fullShare (qOut m ρ c 2))
            -∗ Q ⟨⟩)
        -∗ Wp c (k0_part13 (F := F) xM (Memref.isWhole_whole _) wM (Memref.isWhole_whole _) aM (Memref.isWhole_whole _) bM (Memref.isWhole_whole _) oM (Memref.isWhole_whole _)
        wfM (Memref.isWhole_whole _) qsM (Memref.isWhole_whole _) qrM (Memref.isWhole_whole _) ssM (Memref.isWhole_whole _) srM (Memref.isWhole_whole _)
        cc0_scratch5 cc0_scratch6 cc0_scratch7 cc0_scratch8 cc0_scratch9
          ) Q) := by
  rw [k0_part13_eq_skeleton]; unfold k0_part13_skel
  simp only [semSignalWord, semWaitWord, smemLoad, smemLoadElt_bind, Prog.lift, Prog.bind_op, Prog.bind_ret, Prog.pure_eq_ret, wp_deviceId]
  iintro ⟨#HR, HO, Hc10, Ha10, Hc01, Ha01, Hc11, Ha11, Hc02, Ha02⟩ Hk
  iapply (step_wait_s m ρ K c 0 (dst := (ssSlot 0).squeeze S1x512 squeezes_S1x1x512_S1x512) rfl rfl) $$ [HO Hc10 Ha10]
  · isplitr; · iexact HR
    isplitl [HO]; · iexact HO
    isplitl [Hc10]; · iexact Hc10
    iexact Ha10
  iintro ⟨HO, Hz10, Hs0⟩
  iapply (step_wait_q m ρ K c 1 (dst := (qsSlot 1).squeeze S1024x512 squeezes_S1x1024x512_S1024x512) rfl rfl) $$ [HO Hc01 Ha01]
  · isplitr; · iexact HR
    isplitl [HO]; · iexact HO
    isplitl [Hc01]; · iexact Hc01
    iexact Ha01
  iintro ⟨HO, Hz01, Hq1⟩
  iapply (step_wait_s m ρ K c 1 (dst := (ssSlot 1).squeeze S1x512 squeezes_S1x1x512_S1x512) rfl rfl) $$ [HO Hc11 Ha11]
  · isplitr; · iexact HR
    isplitl [HO]; · iexact HO
    isplitl [Hc11]; · iexact Hc11
    iexact Ha11
  iintro ⟨HO, Hz11, Hs1⟩
  iapply (step_wait_q m ρ K c 2 (dst := (qsSlot 2).squeeze S1024x512 squeezes_S1x1024x512_S1024x512) rfl rfl) $$ [HO Hc02 Ha02]
  · isplitr; · iexact HR
    isplitl [HO]; · iexact HO
    isplitl [Hc02]; · iexact Hc02
    iexact Ha02
  iintro ⟨HO, Hz02, Hq2⟩
  iapply (step_ret c)
  iapply Hk
  isplitl [HO]; · iexact HO
  isplitl [Hz10]; · iexact Hz10
  isplitl [Hs0]; · iexact Hs0
  isplitl [Hz01]; · iexact Hz01
  isplitl [Hq1]; · iexact Hq1
  isplitl [Hz11]; · iexact Hz11
  isplitl [Hs1]; · iexact Hs1
  isplitl [Hz02]; · iexact Hz02
  iexact Hq2

end Cert.KernelIdeal.Exchange

end
-- ==== Proof.Body.lean ====
/-
# The body, run from its start to its end

What a device holds when it enters the body, and what it holds when it leaves.
-/
module

public import proofs.«01_k».proof.Proof.PartsC

@[expose] public section

noncomputable section

namespace Cert.KernelIdeal.Exchange

open Cert.KernelIdeal Cert.KernelIdeal.Gen Cert.Slots
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Cell → ℕ) (c : Dev nD)

/-! ## Lists -/

theorem sep_fin2 (Φ : Fin 2 → sProp 𝕄) : bigSep Finset.univ Φ = iprop(Φ 0 ∗ Φ 1) :=
  bigSep_univ_eq_bigSepL [0, 1] (by decide) (by decide) Φ
theorem sep_fin3 (Φ : Fin 3 → sProp 𝕄) : bigSep Finset.univ Φ = iprop(Φ 0 ∗ Φ 1 ∗ Φ 2) :=
  bigSep_univ_eq_bigSepL [0, 1, 2] (by decide) (by decide) Φ
theorem sep_cells (Φ : Fin 4 × Fin 3 → sProp 𝕄) : bigSep Finset.univ Φ
    = iprop(Φ (0, 0) ∗ Φ (0, 1) ∗ Φ (0, 2) ∗ Φ (1, 0) ∗ Φ (1, 1) ∗ Φ (1, 2) ∗ Φ (2, 0) ∗ Φ (2, 1) ∗ Φ (2, 2) ∗ Φ (3, 0) ∗ Φ (3, 1) ∗ Φ (3, 2)) :=
  bigSep_univ_eq_bigSepL [(0, 0), (0, 1), (0, 2), (1, 0), (1, 1), (1, 2), (2, 0), (2, 1), (2, 2), (3, 0), (3, 1), (3, 2)] (by decide) (by decide) Φ

/-! ## What a device holds -/

/-- Every slot of the scratch buffers, whatever it holds. -/
def slots : sProp 𝕄 :=
  iprop((bigSep Finset.univ fun k : Fin 2 => free (c : Thread nD τ) (wfSlot k)) ∗ (bigSep Finset.univ fun t : Fin 3 => free (c : Thread nD τ) (qsSlot t))
    ∗ (bigSep Finset.univ fun t : Fin 3 => free (c : Thread nD τ) (qrSlot t)) ∗ (bigSep Finset.univ fun t : Fin 3 => free (c : Thread nD τ) (ssSlot t))
    ∗ (bigSep Finset.univ fun t : Fin 3 => free (c : Thread nD τ) (srSlot t)))

/-- The semaphore cell whose duty a device pays by the transfer of kind `k` in step `t`: its own for what leaves, its
    peer's for what lands. -/
def payee (kt : Fin 4 × Fin 3) : GSem nD τ sig := xCell kt.1 kt.2 (if kt.1.val < 2 then c else ahead kt.2 c)

/-- The tokens of the duties a device pays. -/
def payToks : sProp 𝕄 :=
  iprop((bigSep Finset.univ fun t : Fin 3 => dutyTok ER (barCell (ahead t c)) 0 t.rev)
    ∗ (bigSep Finset.univ fun kt : Fin 4 × Fin 3 => dutyTok ER (payee c kt) 0 0))

/-- Its positions at its own cells. -/
def places : sProp 𝕄 :=
  iprop(atPos ER (barCell c) 0 ∅ 0 ∗ (bigSep Finset.univ fun kt : Fin 4 × Fin 3 => atPos ER (xCell kt.1 kt.2 c) 0 ∅ 0))

/-- The credit the launch gives it: what its peers owe it. -/
def dues : sProp 𝕄 :=
  iprop(cred (tallyAt (barCell c) () 3) ∗ (bigSep Finset.univ fun t : Fin 3 => cred (tallyAt (xCell 2 t c) () (xamt 2)))
    ∗ (bigSep Finset.univ fun t : Fin 3 => cred (tallyAt (xCell 3 t c) () (xamt 3))))

/-- The counters of its own semaphores at zero. -/
def zeros : sProp 𝕄 :=
  iprop(semVal (barCell c) 0 ∗ (bigSep Finset.univ fun k : Fin 2 => semVal ((c : Thread nD τ), .dma (wsem k)) 0)
    ∗ (bigSep Finset.univ fun kt : Fin 4 × Fin 3 => semVal (xCell kt.1 kt.2 c) 0))

variable {Q : PUnit → sProp (MT nD τ sig Unit (Elt F) ℕ UU ℕ)}

set_option maxHeartbeats 1600000 in
/-- The body. -/
theorem body_run (f : (cc0_stg3_0 : Ref sig .tc).ty.Contents (Elt F)) :
    iprop(rec m ρ K ∗ owing c 9 ∗ xPts m ρ c ∗ aPts m ρ c ∗ bPts m ρ c ∗ wPts m ρ c ∗ oPts c f ∗ slots c
        ∗ (bigSep Finset.univ fun k : Fin 2 => semVal ((c : Thread nD τ), .dma (wsem k)) 0) ∗ payToks c ∗ dues c ∗ places c)
      ⊢ iprop((iprop(owing c 0 ∗ xPts m ρ c ∗ aPts m ρ c ∗ bPts m ρ c ∗ wPts m ρ c ∗ oPts c (out3 m ρ c f) ∗ slots c ∗ zeros c) -∗ Q ⟨⟩)
        -∗ Wp c (cc0_body (F := F) xM (Memref.isWhole_whole _) wM (Memref.isWhole_whole _) aM (Memref.isWhole_whole _) bM (Memref.isWhole_whole _) oM (Memref.isWhole_whole _)
        wfM (Memref.isWhole_whole _) qsM (Memref.isWhole_whole _) qrM (Memref.isWhole_whole _) ssM (Memref.isWhole_whole _) srM (Memref.isWhole_whole _)
        cc0_scratch5 cc0_scratch6 cc0_scratch7 cc0_scratch8 cc0_scratch9) Q) := by
  rw [cc0_body_eq_skeleton]; unfold cc0_body_skel
  unfold slots payToks dues places zeros
  simp only [sep_fin2, sep_fin3, sep_cells]
  iintro ⟨#HR, HO, Hx, Ha, Hb, Hw, Ho, ⟨⟨Hf0, Hf1⟩, ⟨Hqs0, Hqs1, Hqs2⟩, ⟨Hqr0, Hqr1, Hqr2⟩, ⟨Hss0, Hss1, Hss2⟩, ⟨Hsr0, Hsr1, Hsr2⟩⟩, ⟨Hv0, Hv1⟩, ⟨⟨Hb0, Hb1, Hb2⟩, ⟨Ht00, Ht01, Ht02, Ht10, Ht11, Ht12, Ht20, Ht21, Ht22, Ht30, Ht31, Ht32⟩⟩, ⟨HcB, ⟨Hc20, Hc21, Hc22⟩, ⟨Hc30, Hc31, Hc32⟩⟩, ⟨HaB, ⟨Ha00, Ha01, Ha02, Ha10, Ha11, Ha12, Ha20, Ha21, Ha22, Ha30, Ha31, Ha32⟩⟩⟩ Hk
  rw [step_bind]
  iapply (part1 m ρ K c) $$ [HO Ha Hb Hw Hf0 Hv0 Hb0 Hqr2 Hsr2 Hb1 Hqr1 Hsr1]
  · isplitr; · iexact HR
    isplitl [HO]; · iexact HO
    isplitl [Ha]; · iexact Ha
    isplitl [Hb]; · iexact Hb
    isplitl [Hw]; · iexact Hw
    isplitl [Hf0]; · iexact Hf0
    isplitl [Hv0]; · iexact Hv0
    isplitl [Hb0]; · iexact Hb0
    isplitl [Hqr2]; · iexact Hqr2
    isplitl [Hsr2]; · iexact Hsr2
    isplitl [Hb1]; · iexact Hb1
    isplitl [Hqr1]; · iexact Hqr1
    iexact Hsr1
  iintro ⟨HO, Ha, Hb, Hf0⟩
  try dsimp only
  rw [step_bind]
  iapply (part2 m ρ K c _) $$ [HO Hx Hf0 Hb2 Hqr0 Hsr0 HcB HaB Hf1 Hv1]
  · isplitr; · iexact HR
    isplitl [HO]; · iexact HO
    isplitl [Hx]; · iexact Hx
    isplitl [Hf0]; · iexact Hf0
    isplitl [Hb2]; · iexact Hb2
    isplitl [Hqr0]; · iexact Hqr0
    isplitl [Hsr0]; · iexact Hsr0
    isplitl [HcB]; · iexact HcB
    isplitl [HaB]; · iexact HaB
    isplitl [Hf1]; · iexact Hf1
    iexact Hv1
  iintro ⟨HO, Hx, HzB, Hp0, Hp1, Hp2, Hf0, Hv0, Hf1⟩
  try dsimp only
  unfold barPay
  icases Hp0 with ⟨Hdq0, Hds0, -, -⟩
  icases Hp1 with ⟨Hdq1, Hds1, -, -⟩
  icases Hp2 with ⟨Hdq2, Hds2, -, -⟩
  rw [step_bind]
  iapply (part3 m ρ K c _) $$ [HO Hqs0 Hss0 Hdq0 Ht00 Ht20]
  · isplitr; · iexact HR
    isplitl [HO]; · iexact HO
    isplitl [Hqs0]; · iexact Hqs0
    isplitl [Hss0]; · iexact Hss0
    isplitl [Hdq0]; · iexact Hdq0
    isplitl [Ht00]; · iexact Ht00
    iexact Ht20
  iintro ⟨HO, Hc00, Hss0⟩
  try dsimp only
  rw [step_bind]
  iapply (part4 m ρ K c _) $$ [HO Hx Hss0 Hds0 Ht10 Ht30 Hf1 Hf0 Hv0]
  · isplitr; · iexact HR
    isplitl [HO]; · iexact HO
    isplitl [Hx]; · iexact Hx
    isplitl [Hss0]; · iexact Hss0
    isplitl [Hds0]; · iexact Hds0
    isplitl [Ht10]; · iexact Ht10
    isplitl [Ht30]; · iexact Ht30
    isplitl [Hf1]; · iexact Hf1
    isplitl [Hf0]; · iexact Hf0
    iexact Hv0
  iintro ⟨HO, Hx, Hc10, Hf1, Hv1, Hf0⟩
  try dsimp only
  rw [step_bind]
  iapply (part5 m ρ c _) $$ [Hf1 Hqs1 Hss1]
  · isplitl [Hf1]; · iexact Hf1
    isplitl [Hqs1]; · iexact Hqs1
    iexact Hss1
  iintro ⟨Hf1, Hqs1, Hss1⟩
  try dsimp only
  rw [step_bind]
  iapply (part6 m ρ K c _ _) $$ [HO Hqs1 Hss1 Hdq1 Hds1 Ht01 Ht11 Ht21 Ht31 Hf0]
  · isplitr; · iexact HR
    isplitl [HO]; · iexact HO
    isplitl [Hqs1]; · iexact Hqs1
    isplitl [Hss1]; · iexact Hss1
    isplitl [Hdq1]; · iexact Hdq1
    isplitl [Hds1]; · iexact Hds1
    isplitl [Ht01]; · iexact Ht01
    isplitl [Ht11]; · iexact Ht11
    isplitl [Ht21]; · iexact Ht21
    isplitl [Ht31]; · iexact Ht31
    iexact Hf0
  iintro ⟨HO, Hc01, Hc11, Hf0, Hw, Hv0⟩
  try dsimp only
  rw [step_bind]
  iapply (part7 m ρ c _) $$ [Hw Hf1 Hv1 Hx Hf0 Hqs2 Hss2]
  · isplitl [Hw]; · iexact Hw
    isplitl [Hf1]; · iexact Hf1
    isplitl [Hv1]; · iexact Hv1
    isplitl [Hx]; · iexact Hx
    isplitl [Hf0]; · iexact Hf0
    isplitl [Hqs2]; · iexact Hqs2
    iexact Hss2
  iintro ⟨Hf1, Hx, Hf0, Hqs2, Hss2⟩
  try dsimp only
  rw [step_bind]
  iapply (part8 m ρ K c _ _) $$ [HO Hqs2 Hss2 Hdq2 Hds2 Ht02 Ht12 Ht22 Ht32 Hf1 Hx]
  · isplitr; · iexact HR
    isplitl [HO]; · iexact HO
    isplitl [Hqs2]; · iexact Hqs2
    isplitl [Hss2]; · iexact Hss2
    isplitl [Hdq2]; · iexact Hdq2
    isplitl [Hds2]; · iexact Hds2
    isplitl [Ht02]; · iexact Ht02
    isplitl [Ht12]; · iexact Ht12
    isplitl [Ht22]; · iexact Ht22
    isplitl [Ht32]; · iexact Ht32
    isplitl [Hf1]; · iexact Hf1
    iexact Hx
  iintro ⟨HO, Hc02, Hc12, Hf1, Hw, Hv1, Hx⟩
  try dsimp only
  rw [step_bind]
  iapply (part9 m ρ K c f _) $$ [HO Ho Hc20 Ha20 Hc30 Ha30]
  · isplitr; · iexact HR
    isplitl [HO]; · iexact HO
    isplitl [Ho]; · iexact Ho
    isplitl [Hc20]; · iexact Hc20
    isplitl [Ha20]; · iexact Ha20
    isplitl [Hc30]; · iexact Hc30
    iexact Ha30
  iintro ⟨HO, Ho, Hz20, Hqr0, Hz30, Hsr0⟩
  try dsimp only
  rw [step_bind]
  iapply (part10 m ρ K c f _ _) $$ [HO Ho Hsr0 Hc21 Ha21 Hc31 Ha31]
  · isplitr; · iexact HR
    isplitl [HO]; · iexact HO
    isplitl [Ho]; · iexact Ho
    isplitl [Hsr0]; · iexact Hsr0
    isplitl [Hc21]; · iexact Hc21
    isplitl [Ha21]; · iexact Ha21
    isplitl [Hc31]; · iexact Hc31
    iexact Ha31
  iintro ⟨HO, Ho, Hsr0, Hz21, Hqr1, Hz31, Hsr1⟩
  try dsimp only
  rw [step_bind]
  iapply (part11 m ρ K c f _ _) $$ [HO Ho Hqr1 Hsr1 Hc22 Ha22]
  · isplitr; · iexact HR
    isplitl [HO]; · iexact HO
    isplitl [Ho]; · iexact Ho
    isplitl [Hqr1]; · iexact Hqr1
    isplitl [Hsr1]; · iexact Hsr1
    isplitl [Hc22]; · iexact Hc22
    iexact Ha22
  iintro ⟨HO, Ho, Hqr1, Hsr1, Hz22, Hqr2⟩
  try dsimp only
  rw [step_bind]
  iapply (part12 m ρ K c f _) $$ [HO Ho Hqr2 Hc32 Ha32 Hc00 Ha00]
  · isplitr; · iexact HR
    isplitl [HO]; · iexact HO
    isplitl [Ho]; · iexact Ho
    isplitl [Hqr2]; · iexact Hqr2
    isplitl [Hc32]; · iexact Hc32
    isplitl [Ha32]; · iexact Ha32
    isplitl [Hc00]; · iexact Hc00
    iexact Ha00
  iintro ⟨HO, Ho, Hqr2, Hz32, Hsr2, Hz00, Hqs0⟩
  try dsimp only
  rw [step_bind]
  iapply (part13 m ρ K c) $$ [HO Hc10 Ha10 Hc01 Ha01 Hc11 Ha11 Hc02 Ha02]
  · isplitr; · iexact HR
    isplitl [HO]; · iexact HO
    isplitl [Hc10]; · iexact Hc10
    isplitl [Ha10]; · iexact Ha10
    isplitl [Hc01]; · iexact Hc01
    isplitl [Ha01]; · iexact Ha01
    isplitl [Hc11]; · iexact Hc11
    isplitl [Ha11]; · iexact Ha11
    isplitl [Hc02]; · iexact Hc02
    iexact Ha02
  iintro ⟨HO, Hz10, Hss0, Hz01, Hqs1, Hz11, Hss1, Hz02, Hqs2⟩
  try dsimp only
  simp only [Prog.lift, Prog.bind_op, Prog.bind_ret, Prog.pure_eq_ret]
  iapply (step_wait_s m ρ K c 2 (dst := (ssSlot 2).squeeze S1x512 squeezes_S1x1x512_S1x512) rfl rfl) $$ [HO Hc12 Ha12]
  · isplitr; · iexact HR
    isplitl [HO]; · iexact HO
    isplitl [Hc12]; · iexact Hc12
    iexact Ha12
  iintro ⟨HO, Hz12, Hss2⟩
  iapply (step_ret c)
  iapply Hk
  isplitl [HO]; · iexact HO
  isplitl [Hx]; · iexact Hx
  isplitl [Ha]; · iexact Ha
  isplitl [Hb]; · iexact Hb
  isplitl [Hw]; · iexact Hw
  isplitl [Ho]; · iexact Ho
  ihave Hf0 := (owns_free (c : Thread nD τ) (wfSlot 0)) $$ Hf0
  ihave Hf1 := (owns_free (c : Thread nD τ) (wfSlot 1)) $$ Hf1
  ihave Hqs0 := (owns_free (c : Thread nD τ) (qsSlot 0)) $$ Hqs0
  ihave Hqs1 := (owns_free (c : Thread nD τ) (qsSlot 1)) $$ Hqs1
  ihave Hqs2 := (owns_free (c : Thread nD τ) (qsSlot 2)) $$ Hqs2
  ihave Hqr0 := (owns_free (c : Thread nD τ) (qrSlot 0)) $$ Hqr0
  ihave Hqr1 := (owns_free (c : Thread nD τ) (qrSlot 1)) $$ Hqr1
  ihave Hqr2 := (owns_free (c : Thread nD τ) (qrSlot 2)) $$ Hqr2
  ihave Hss0 := (owns_free (c : Thread nD τ) (ssSlot 0)) $$ Hss0
  ihave Hss1 := (owns_free (c : Thread nD τ) (ssSlot 1)) $$ Hss1
  ihave Hss2 := (owns_free (c : Thread nD τ) (ssSlot 2)) $$ Hss2
  ihave Hsr0 := (owns_free (c : Thread nD τ) (srSlot 0)) $$ Hsr0
  ihave Hsr1 := (owns_free (c : Thread nD τ) (srSlot 1)) $$ Hsr1
  ihave Hsr2 := (owns_free (c : Thread nD τ) (srSlot 2)) $$ Hsr2
  isplitl [Hf0 Hf1 Hqs0 Hqs1 Hqs2 Hqr0 Hqr1 Hqr2 Hss0 Hss1 Hss2 Hsr0 Hsr1 Hsr2]
  · isplitl [Hf0 Hf1]
    · isplitl [Hf0]; · iexact Hf0
      iexact Hf1
    isplitl [Hqs0 Hqs1 Hqs2]
    · isplitl [Hqs0]; · iexact Hqs0
      isplitl [Hqs1]; · iexact Hqs1
      iexact Hqs2
    isplitl [Hqr0 Hqr1 Hqr2]
    · isplitl [Hqr0]; · iexact Hqr0
      isplitl [Hqr1]; · iexact Hqr1
      iexact Hqr2
    isplitl [Hss0 Hss1 Hss2]
    · isplitl [Hss0]; · iexact Hss0
      isplitl [Hss1]; · iexact Hss1
      iexact Hss2
    isplitl [Hsr0]; · iexact Hsr0
    isplitl [Hsr1]; · iexact Hsr1
    iexact Hsr2
  isplitl [HzB]; · iexact HzB
  isplitl [Hv0 Hv1]
  · isplitl [Hv0]; · iexact Hv0
    iexact Hv1
  isplitl [Hz00]; · iexact Hz00
  isplitl [Hz01]; · iexact Hz01
  isplitl [Hz02]; · iexact Hz02
  isplitl [Hz10]; · iexact Hz10
  isplitl [Hz11]; · iexact Hz11
  isplitl [Hz12]; · iexact Hz12
  isplitl [Hz20]; · iexact Hz20
  isplitl [Hz21]; · iexact Hz21
  isplitl [Hz22]; · iexact Hz22
  isplitl [Hz30]; · iexact Hz30
  isplitl [Hz31]; · iexact Hz31
  iexact Hz32

end Cert.KernelIdeal.Exchange

end
-- ==== Proof.Region.lean ====
/-
# The result, and the body as the pipeline runs it

The four stores of the body cover the result, so that what it holds afterwards is its four blocks of rows and
nothing of what it held before.
-/
module

public import proofs.«01_k».proof.Proof.Body

@[expose] public section

noncomputable section

namespace Cert.KernelIdeal.Exchange

open Cert.KernelIdeal Cert.KernelIdeal.Gen Cert.Slots
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Cell → ℕ) (c : Dev nD)

/-! ## The result, by blocks of rows -/

/-- An index of a plane, from a row and a column. -/
def spot {d : Fin 2 → ℕ} (i : Fin (d 0)) (j : Fin (d 1)) : (⟨2, d⟩ : Shape).Idx := fun k => match k with | 0 => i | 1 => j

/-- The block of rows an index of the result lies in, -/
def blockOf (i : S4096x512.Idx) : Fin 4 := ⟨(i (0 : Fin 2)).val / 1024, by
  have h : (i (0 : Fin 2)).val < 4096 := (i (0 : Fin 2)).isLt
  omega⟩

/-- and its place within it. -/
def within (i : S4096x512.Idx) : S1024x512.Idx :=
  spot (d := ![1024, 512]) ⟨(i (0 : Fin 2)).val % 1024, Nat.mod_lt _ (by decide)⟩ ⟨(i (1 : Fin 2)).val, (i (1 : Fin 2)).isLt⟩

/-- What the result holds on device `c`: its own block, and a block from each peer. -/
def outAt : (cc0_stg3_0 : Ref sig .tc).ty.Contents (Elt F) := fun i =>
  if blockOf i = behind 2 c then gotPart m ρ c 2 (within i)
  else if blockOf i = behind 1 c then gotPart m ρ c 1 (within i)
  else if blockOf i = behind 0 c then gotPart m ρ c 0 (within i)
  else ownPart m ρ c (within i)

/-- A whole buffer with a rectangle of it rewritten holds in the rectangle what was written, -/
theorem write_emb {sg : RefSig} {κ : Kind} {Val : EltTy → Type} (b : Ref sg κ) (r : Rect b.ty.shape) (f : b.ty.Contents Val) (w : r.shape.Idx → Val b.ty.elt)
    (x : r.shape.Idx) : ((Memref.whole b).access r).write Val f w Finset.univ (r.emb x) = w x :=
  View.write_emb_of_mem (v := ((Memref.whole b).access r : View sg κ _ _ _)) (Val := Val) f w (M := Finset.univ) (x := x) (Finset.mem_univ _)

/-- and elsewhere what it held. -/
theorem write_else {sg : RefSig} {κ : Kind} {Val : EltTy → Type} (b : Ref sg κ) (r : Rect b.ty.shape) (f : b.ty.Contents Val) (w : r.shape.Idx → Val b.ty.elt)
    (i : b.ty.shape.Idx) (h : i ∉ r.set) : ((Memref.whole b).access r).write Val f w Finset.univ i = f i :=
  View.write_of_not_mem (v := ((Memref.whole b).access r : View sg κ _ _ _)) (Val := Val) f w Finset.univ (by
    rw [← View.set_slice_whole b r] at h
    exact h)

/-- A block just written, read in it; -/
theorem put_in (b : Fin 4) (off : Fin 2 → ℕ) (hoff : off = ![1024 * b.val, 0]) (hi : ∀ a : Fin 2, off a + S1024x512.size a ≤ S4096x512.size a)
    (f : (cc0_stg3_0 : Ref sig .tc).ty.Contents (Elt F)) (w : S1024x512.Idx → Elt F .f32) (i : S4096x512.Idx) (h : blockOf i = b) :
    put (Rect.unit (s := S4096x512) off S1024x512.size hi) f w i = w (within i) := by
  have h1 : (i (0 : Fin 2)).val / 1024 = b.val := congrArg Fin.val h
  have he : (Rect.unit (s := S4096x512) off S1024x512.size hi).emb (within i) = i := funext fun a => Fin.ext (by
    subst hoff
    fin_cases a
    · show 1024 * b.val + 1 * ((i (0 : Fin 2)).val % 1024) = (i (0 : Fin 2)).val
      omega
    · show 0 + 1 * (i (1 : Fin 2)).val = (i (1 : Fin 2)).val
      omega)
  have hw := write_emb cc0_stg3_0 (Rect.unit (s := S4096x512) off S1024x512.size hi) f w (within i)
  rw [he] at hw
  exact hw

/-- and read outside of it. -/
theorem put_out (b : Fin 4) (off : Fin 2 → ℕ) (hoff : off = ![1024 * b.val, 0]) (hi : ∀ a : Fin 2, off a + S1024x512.size a ≤ S4096x512.size a)
    (f : (cc0_stg3_0 : Ref sig .tc).ty.Contents (Elt F)) (w : S1024x512.Idx → Elt F .f32) (i : S4096x512.Idx) (h : blockOf i ≠ b) :
    put (Rect.unit (s := S4096x512) off S1024x512.size hi) f w i = f i := by
  refine write_else cc0_stg3_0 (Rect.unit (s := S4096x512) off S1024x512.size hi) f w i ?_
  have h1 : (i (0 : Fin 2)).val / 1024 ≠ b.val := fun e => h (Fin.ext e)
  rw [Rect.mem_set_unit]
  intro hall
  have h0 : 1024 * b.val ≤ (i (0 : Fin 2)).val ∧ (i (0 : Fin 2)).val < 1024 * b.val + 1024 := by
    subst hoff; exact hall (0 : Fin 2)
  omega

theorem own_off : k0_off2 c = ![1024 * (c : Fin 4).val, 0] := k0_off2_eq c
theorem got_off (t : Fin 3) : k0_off3 c (BitVec.ofNat 32 t.val) = ![1024 * (behind t c : Fin 4).val, 0] := by
  rw [k0_off3_eq c t]
  have h : ((c.val + 3) - t.val) % 4 = (behind t c : Fin 4).val := by
    show _ = (c.val + (3 - t.val)) % 4
    have := t.isLt
    congr 1; omega
  rw [h]

/-- A block that is no peer's is the device's own. -/
theorem own_block (b c : Fin 4) (h2 : b ≠ behind 2 c) (h1 : b ≠ behind 1 c) (h0 : b ≠ behind 0 c) : b = c := by
  revert b c; decide

/-- The four stores make the result. -/
theorem out3_eq (f : (cc0_stg3_0 : Ref sig .tc).ty.Contents (Elt F)) : out3 m ρ c f = outAt m ρ c := by
  funext i
  unfold outAt
  by_cases h2 : blockOf i = behind 2 c
  · rw [if_pos h2]; exact put_in (behind 2 c) _ (got_off c 2) _ _ _ i h2
  rw [if_neg h2]
  refine (put_out (behind 2 c) _ (got_off c 2) _ _ _ i h2).trans ?_
  by_cases h1 : blockOf i = behind 1 c
  · rw [if_pos h1]; exact put_in (behind 1 c) _ (got_off c 1) _ _ _ i h1
  rw [if_neg h1]
  refine (put_out (behind 1 c) _ (got_off c 1) _ _ _ i h1).trans ?_
  by_cases h0 : blockOf i = behind 0 c
  · rw [if_pos h0]; exact put_in (behind 0 c) _ (got_off c 0) _ _ _ i h0
  rw [if_neg h0]
  refine (put_out (behind 0 c) _ (got_off c 0) _ _ _ i h0).trans ?_
  exact put_in c _ (own_off c) _ _ _ i (own_block _ _ h2 h1 h0)

/-! ## The pipeline's account of the body -/

/-- What a device enters the body with, the names of the cells' invariants being any: -/
def entry : sProp 𝕄 :=
  iprop((∃ K : Dev nD × Cell → ℕ, rec m ρ K) ∗ wPts m ρ c ∗ (bigSep Finset.univ fun k : Fin 2 => semVal ((c : Thread nD τ), .dma (wsem k)) 0)
    ∗ payToks c ∗ dues c ∗ places c)

def Φ₀ : sProp 𝕄 := iprop(entry m ρ c ∗ slots c)
/-- and what it leaves it with. -/
def Φ₁ : sProp 𝕄 := iprop(wPts m ρ c ∗ slots c ∗ zeros c)

/-- What the windows hold before and after the body, and what a device holds and owes beside them. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m ρ c
    | ⟨1, _⟩ => aIn m ρ c
    | ⟨2, _⟩ => bIn m ρ c
    | ⟨3, _⟩ => outAt m ρ c
  Φ t := match t with
    | ⟨0, _⟩ => Φ₀ m ρ c
    | ⟨_ + 1, _⟩ => Φ₁ m ρ c
  q _ := fullShare
  owed t := match t with
    | ⟨0, _⟩ => due c 9
    | ⟨_ + 1, _⟩ => 0

theorem sep_windows (Φ : Fin cfg0.W → sProp 𝕄) : bigSep Finset.univ Φ = iprop(Φ (0 : Fin 4) ∗ Φ (1 : Fin 4) ∗ Φ (2 : Fin 4) ∗ Φ (3 : Fin 4)) := bigSep_W0 Φ

/-- A staging buffer that holds `X`. -/
abbrev stg (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_stg (b : Ref sig .tc) (X : b.ty.Contents (Elt F)) :
    (owns (Ix := Unit) (Name := ℕ) (U := UU) (Lvl := ℕ) (c : Thread nD τ) (Memref.whole b) fullShare X : sProp 𝕄) = stg c b X := by
  unfold owns stg
  rw [show (Memref.whole b).view.set = Finset.univ from View.set_whole b]
  rfl

def before : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def after : sProp 𝕄 :=
  iprop(Φ₁ m ρ c ∗ (dats m ρ 0 c).owesAt () t0_0.succ ∗ stg c cc0_stg0_0 (xIn m ρ c) ∗ stg c cc0_stg1_0 (aIn m ρ c)
    ∗ stg c cc0_stg2_0 (bIn m ρ c) ∗ stg c cc0_stg3_0 (outAt m ρ c))

/-- The body takes a device from the one to the other. -/
theorem body_sound : before m ρ c ⊢ Wp c (cc0_body (F := F) xM (Memref.isWhole_whole _) wM (Memref.isWhole_whole _) aM (Memref.isWhole_whole _) bM (Memref.isWhole_whole _) oM (Memref.isWhole_whole _)
        wfM (Memref.isWhole_whole _) qsM (Memref.isWhole_whole _) qrM (Memref.isWhole_whole _) ssM (Memref.isWhole_whole _) srM (Memref.isWhole_whole _)
        cc0_scratch5 cc0_scratch6 cc0_scratch7 cc0_scratch8 cc0_scratch9) (fun _ => after m ρ c) := by
  unfold before Φ₀ entry
  iintro ⟨⟨⟨⟨%K, #HR⟩, Hw, Hv, Htk, Hdu, Hpl⟩, Hsl⟩, HO, ⟨%d0, %g0, %hg0, Hx⟩, ⟨%d1, %g1, %hg1, Ha⟩, ⟨%d2, %g2, %hg2, Hb⟩, ⟨%d3, %g3, %hg3, Ho⟩⟩
  have hx : g0 = xIn m ρ c := by rw [hg0]; unfold Dat.before; rw [if_pos (fetch0_0 t0_0)]; rfl
  have ha : g1 = aIn m ρ c := by rw [hg1]; unfold Dat.before; rw [if_pos (fetch0_1 t0_0)]; rfl
  have hb : g2 = bIn m ρ c := by rw [hg2]; unfold Dat.before; rw [if_pos (fetch0_2 t0_0)]; rfl
  subst hx ha hb
  unfold Dat.owesAt Pipeline.owesWithin
  icases HO with ⟨%W, %hW, HO⟩
  rw [show (dats m ρ 0 c).owed t0_0.castSucc = due c 9 from rfl]
  iapply (body_run m ρ K c g3) $$ [HO Hw Hv Htk Hdu Hpl Hsl Hx Ha Hb Ho]
  · isplitr; · iexact HR
    isplitl [HO]; · unfold owing; iexists W; iexact HO
    isplitl [Hx]; · unfold xPts; iexact Hx
    isplitl [Ha]; · unfold aPts; iexact Ha
    isplitl [Hb]; · unfold bPts; iexact Hb
    isplitl [Hw]; · iexact Hw
    isplitl [Ho]; · unfold oPts; iexact Ho
    isplitl [Hsl]; · iexact Hsl
    isplitl [Hv]; · iexact Hv
    isplitl [Htk]; · iexact Htk
    isplitl [Hdu]; · iexact Hdu
    iexact Hpl
  rw [out3_eq]
  iintro ⟨HO, Hx, Ha, Hb, Hw, Ho, Hsl, Hz⟩
  unfold after Φ₁ Dat.owesAt Pipeline.owesWithin owing xPts aPts bPts oPts
  rw [show (dats m ρ 0 c).owed t0_0.succ = due c 0 from rfl]
  isplitl [Hw Hsl Hz]
  · isplitl [Hw]; · iexact Hw
    isplitl [Hsl]; · iexact Hsl
    iexact Hz
  isplitl [HO]
  · icases HO with ⟨%W', HO⟩
    iexists W'
    isplitr; · ipureintro; exact fun _ _ => Or.inl trivial
    iexact HO
  isplitl [Hx]
  · iexists _; isplitr; · (ipureintro; rfl)
    iexact Hx
  isplitl [Ha]
  · iexists _; isplitr; · (ipureintro; rfl)
    iexact Ha
  isplitl [Hb]
  · iexists _; isplitr; · (ipureintro; rfl)
    iexact Hb
  iexists _; isplitr; · (ipureintro; rfl)
  iexact Ho

set_option maxRecDepth 4000 in
/-- The pipeline's obligation. -/
theorem body_obligation (c : Dev nD) : BodyObligation (dats (F := F) m ρ 0 c) (defs₀ (F := F)) 𝒱₀ () Set.univ := fun t => by
  rw [fin_N0 t]
  rw [sep_windows, sep_windows]
  simp only [owns_stg]
  show before m ρ c ⊢ Wp c (cc0_body (F := F) xM (Memref.isWhole_whole _) wM (Memref.isWhole_whole _) aM (Memref.isWhole_whole _) bM (Memref.isWhole_whole _) oM (Memref.isWhole_whole _)
        wfM (Memref.isWhole_whole _) qsM (Memref.isWhole_whole _) qrM (Memref.isWhole_whole _) ssM (Memref.isWhole_whole _) srM (Memref.isWhole_whole _)
        cc0_scratch5 cc0_scratch6 cc0_scratch7 cc0_scratch8 cc0_scratch9) (fun _ => after m ρ c)
  exact body_sound m ρ c

end Cert.KernelIdeal.Exchange

end
-- ==== Proof.Mint.lean ====
/-
# What the launch mints

The launch shares out, to every device, its places at its own semaphore cells and the tokens of the duties it pays
at its own and at its peers', and gives it the credit that its peers owe it.
-/
module

public import proofs.«01_k».proof.Proof.Region

@[expose] public section

noncomputable section

namespace Cert.KernelIdeal.Exchange

open Cert.KernelIdeal Cert.KernelIdeal.Gen Cert.Slots
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The program's own semaphores -/

set_option backward.proofsInPublic true in
/-- The fourteen semaphores that are the kernel's own: two for the weights, twelve for the transfers. -/
def osem (q : Fin 14) : SemLoc sig := .dma ⟨4 + q.val, by have := q.isLt; show 4 + q.val < 18; omega⟩

theorem osem_facts : Pipeline.OwnSemFacts cfg0.spec osem := by decide

theorem sep_cell (Φ : Cell → sProp 𝕄) : bigSep Finset.univ Φ = iprop(Φ none ∗ bigSep Finset.univ fun kt : Fin 4 × Fin 3 => Φ (some kt)) := by
  rw [sep_cells]
  exact bigSep_univ_eq_bigSepL [none, some (0, 0), some (0, 1), some (0, 2), some (1, 0), some (1, 1), some (1, 2), some (2, 0), some (2, 1), some (2, 2),
    some (3, 0), some (3, 1), some (3, 2)] (by decide) (by decide) Φ

theorem sep_shift (P Q R : sProp 𝕄) : iprop((P ∗ Q) ∗ R) = iprop(P ∗ Q ∗ R) := equiv_iff.mp ⟨BI.sep_assoc, BI.sep_assoc'⟩

/-- Their counters, as the launch hands them over, -/
theorem own_sems (c : Dev nD) :
    (Pipeline.ownSems0 (Ix := Unit) (Name := ℕ) (U := UU) (Lvl := ℕ) (Val := Elt F) (τ := τ) osem c : sProp 𝕄)
      = iprop((bigSep Finset.univ fun k : Fin 2 => semVal ((c : Thread nD τ), .dma (wsem k)) 0)
          ∗ (bigSep Finset.univ fun kt : Fin 4 × Fin 3 => semVal (xCell kt.1 kt.2 c) 0)) := by
  rw [Pipeline.ownSems0_eq_of_list c osem [0, 1, 2, 3, 4, 5, 6, 7, 8, 9, 10, 11, 12, 13] (by decide) (by decide), sep_fin2, sep_cells, sep_shift]
  rfl

/-- and the barrier's, which outlives it. -/
theorem far_sems (c : Dev nD) : (unscopedSems0 c : sProp 𝕄) = semVal (barCell c) 0 := by
  unfold unscopedSems0
  rw [bigSep_eq_bigSepL_of_eq [SemLoc.reg barS] (by decide) (by decide)]
  rfl

/-! ## What is minted -/

theorem kcell_inj : Function.Injective (kcell : Dev nD × Cell → GSem nD τ sig) := by
  rintro ⟨c, k⟩ ⟨c', k'⟩ h
  have h1 : c = c' := congrArg (fun g : GSem nD τ sig => g.1.1) h
  have h2 : k = k' := csem_inj (congrArg Prod.snd h)
  rw [h1, h2]

theorem bar_eq {a b : Dev nD} (h : barCell a = barCell b) : a = b :=
  congrArg Prod.fst (kcell_inj (a₁ := (a, none)) (a₂ := (b, none)) h)
theorem x_eq {k k' : Fin 4} {t t' : Fin 3} {a b : Dev nD} (h : xCell k t a = xCell k' t' b) : k = k' ∧ t = t' ∧ a = b := by
  have h' := kcell_inj (a₁ := (a, some (k, t))) (a₂ := (b, some (k', t'))) h
  injection h' with h1 h2
  injection h2 with h2
  injection h2 with h3 h4
  exact ⟨h3, h4, h1⟩
theorem x_ne_bar {k : Fin 4} {t : Fin 3} {a b : Dev nD} : xCell k t a ≠ barCell b := fun h => by
  have h' := kcell_inj (a₁ := (a, some (k, t))) (a₂ := (b, none)) h
  injection h' with h1 h2
  cases h2

def allCells : Finset (GSem nD τ sig) := Finset.univ.map ⟨kcell, kcell_inj⟩

/-- The duties a device pays: a unit at each peer's barrier cell, and each transfer's credit where it is due. -/
def tokOf (ct : Dev nD × (Fin 3 ⊕ Fin 4 × Fin 3)) : GSem nD τ sig × ℕ × Fin 3 :=
  match ct.2 with
  | .inl t => (barCell (ahead t ct.1), 0, t.rev)
  | .inr kt => (payee ct.1 kt, 0, 0)

theorem ahead_inj {t : Fin 3} {a b : Dev nD} (h : ahead t a = ahead t b) : a = b := by
  rw [← behind_ahead t a, h, behind_ahead]

theorem tokOf_inj : Function.Injective (tokOf : Dev nD × (Fin 3 ⊕ Fin 4 × Fin 3) → GSem nD τ sig × ℕ × Fin 3) := by
  rintro ⟨c, t | kt⟩ ⟨c', t' | kt'⟩ h
  · have h1 : barCell (ahead t c) = barCell (ahead t' c') := congrArg Prod.fst h
    have h2 : t.rev = t'.rev := congrArg (fun x : GSem nD τ sig × ℕ × Fin 3 => x.2.2) h
    have h3 : t = t' := Fin.rev_injective h2
    subst h3
    rw [ahead_inj (bar_eq h1)]
  · exact absurd (congrArg Prod.fst h).symm x_ne_bar
  · exact absurd (congrArg Prod.fst h) x_ne_bar
  · obtain ⟨k, t⟩ := kt
    obtain ⟨k', t'⟩ := kt'
    obtain ⟨h1, h2, h3⟩ := x_eq (show xCell k t (if k.val < 2 then c else ahead t c) = xCell k' t' (if k'.val < 2 then c' else ahead t' c') from congrArg Prod.fst h)
    subst h1 h2
    have h4 : c = c' := by
      by_cases hk : k.val < 2
      · rwa [if_pos hk, if_pos hk] at h3
      · rw [if_neg hk, if_neg hk] at h3; exact ahead_inj h3
    rw [h4]

def allToks : Finset (GSem nD τ sig × ℕ × Fin 3) := Finset.univ.map ⟨tokOf, tokOf_inj⟩

def u₀ : UU :=
  (initOf (Pipeline.cells cfgs cellOf_inj) (Pipeline.launchToks cfgs cellOf_inj), (initOf allCells allToks, 1))

/-- What the launch deals a device: its cells' states, its places at them, and the tokens of what it pays. -/
def dealt (c : Dev nD) : sProp 𝕄 :=
  iprop((bigSep Finset.univ fun k : Cell => roundState ER (xRd m ρ) (kcell (c, k)) 0)
    ∗ (bigSep Finset.univ fun k : Cell => iprop(atPos ER (kcell (c, k)) 0 ∅ 0 ∗ reached ER (kcell (c, k)) 0)) ∗ payToks c)

/-- What is known of every cell, the levels apart. -/
def known (K : Dev nD × Cell → ℕ) : sProp 𝕄 :=
  iprop((bigSep Finset.univ fun ck : Dev nD × Cell => cellInv ER (xRd m ρ) (K ck) (kcell ck))
    ∗ bigSep Finset.univ fun ck : Dev nD × Cell => reached ER (kcell ck) 0)

instance known_persistent (K : Dev nD × Cell → ℕ) : BI.Persistent (known (F := F) m ρ K) := by unfold known; infer_instance

/-- What a device goes into the kernel with, once the cells are shared. -/
def armed (c : Dev nD) : sProp 𝕄 :=
  iprop(∃ K : Dev nD × Cell → ℕ, known m ρ K ∗ places c ∗ payToks c ∗ bigSep Finset.univ fun k : Fin 2 => semVal ((c : Thread nD τ), .dma (wsem k)) 0)

/-- The launch's element pays for what is dealt. -/
theorem fund_dealt : BI.own (ER (initOf allCells allToks)) ⊢ (|==> bigSep Finset.univ (dealt m ρ) : sProp 𝕄) := by
  have hX (Φ : GSem nD τ sig → sProp 𝕄) : bigSep allCells Φ = bigSep Finset.univ fun c : Dev nD => bigSep Finset.univ fun k : Cell => Φ (kcell (c, k)) := by
    unfold allCells; rw [bigSep_map, bigSep_univ_prod]; rfl
  have hT : bigSep allToks (fun x => (dutyTok ER x.1 x.2.1 x.2.2 : sProp 𝕄)) = bigSep Finset.univ fun c : Dev nD => payToks c := by
    unfold allToks
    rw [bigSep_map, bigSep_univ_prod]
    exact bigSep_congr fun c _ => by unfold payToks; rw [BI.bigSep_univ_sum]; rfl
  iintro HX
  imod (Rounds.fund ER (xRd m ρ) allCells allToks) $$ HX with ⟨Hst, Hr, Hat, Htok⟩
  imodintro
  ihave Hst' := (Entails.of_eq (hX fun g => roundState ER (xRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt
  simp only [bigSep_sep']
  isplitl [Hst']; · iexact Hst'
  isplitl [Hat' Hr']
  · isplitl [Hat'] <;> iassumption
  iexact Htok'

/-- One device's cells become shared: their states go into invariants. -/
theorem share_cells (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun k : Cell => iprop(∃ κ : ℕ, cellInv ER (xRd m ρ) κ (kcell (c, k))))
          ∗ (bigSep Finset.univ fun k : Cell => reached ER (kcell (c, k)) 0)
          ∗ (places c ∗ payToks c ∗ bigSep Finset.univ fun k : Fin 2 => semVal ((c : Thread nD τ), .dma (wsem k)) 0)) := by
  unfold dealt
  rw [own_sems, far_sems, bigSep_sep']
  iintro ⟨⟨Hw, Hx⟩, Hb, Hst, ⟨Hat, Hr⟩, Htok⟩
  imod (show iprop((bigSep Finset.univ fun k : Cell => semVal (kcell (c, k)) 0) ∗ bigSep Finset.univ fun k : Cell => roundState ER (xRd m ρ) (kcell (c, k)) 0)
      ⊢ (|={Set.univ}=> bigSep Finset.univ fun k : Cell => iprop(∃ κ : ℕ, cellInv ER (xRd m ρ) κ (kcell (c, k))) : sProp 𝕄) from by
        rw [← bigSep_sep']
        exact (bigSep_mono fun k _ => (Rounds.body_intro ER (xRd m ρ) (kcell (c, k))).trans inv_alloc).trans (bigSep_fupd _ _)) $$ [Hb Hx Hst] with Hinv
  · isplitl [Hb Hx]
    · iapply (Entails.of_eq (sep_cell (fun k : Cell => (semVal (kcell (c, k)) 0 : sProp 𝕄))).symm)
      isplitl [Hb]; · iexact Hb
      iexact Hx
    iexact Hst
  imodintro
  isplitl [Hinv]; · iexact Hinv
  isplitl [Hr]; · iexact Hr
  isplitl [Hat]
  · unfold places
    iapply (Entails.of_eq (sep_cell (fun k : Cell => (atPos ER (kcell (c, k)) 0 ∅ 0 : sProp 𝕄))))
    iexact Hat
  isplitl [Htok]; · iexact Htok
  iexact Hw

/-- A persistent fact goes to every member of a list. -/
theorem spread {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Every device is told of every cell. -/
theorem tell_all :
    (bigSep Finset.univ fun c : Dev nD => iprop((bigSep Finset.univ fun k : Cell => iprop(∃ κ : ℕ, cellInv ER (xRd m ρ) κ (kcell (c, k))))
          ∗ (bigSep Finset.univ fun k : Cell => reached ER (kcell (c, k)) 0)
          ∗ (places c ∗ payToks c ∗ bigSep Finset.univ fun k : Fin 2 => semVal ((c : Thread nD τ), .dma (wsem k)) 0)) : sProp 𝕄)
      ⊢ bigSep Finset.univ (armed m ρ) := by
  rw [bigSep_sep', bigSep_sep', ← bigSep_univ_prod (fun ck : Dev nD × Cell => iprop(∃ κ : ℕ, cellInv ER (xRd m ρ) κ (kcell ck))),
    ← bigSep_univ_prod (fun ck : Dev nD × Cell => (reached ER (kcell ck) 0 : sProp 𝕄))]
  iintro ⟨HI, #HR, Hrest⟩
  ihave HK := (BI.bigSep_exists_pi Finset.univ (fun (ck : Dev nD × Cell) (κ : ℕ) => (cellInv ER (xRd m ρ) κ (kcell ck) : sProp 𝕄))) $$ HI
  icases HK with ⟨%K, #HI⟩
  iapply (spread (R := known m ρ K) (Ψ := armed m ρ) (S := Finset.univ)
    (Φ := fun c : Dev nD => iprop(places c ∗ payToks c ∗ bigSep Finset.univ fun k : Fin 2 => semVal ((c : Thread nD τ), .dma (wsem k)) 0)) fun c _ => by
      unfold armed
      iintro ⟨HK, H⟩
      iexists K
      isplitl [HK]; · iexact HK
      iexact H)
  isplitr
  · unfold known
    isplitl; · iexact HI
    iexact HR
  · iexact Hrest

/-- All devices' cells shared at once. -/
theorem share_all : (bigSep Finset.univ fun c => iprop(Pipeline.ownSems0 (Ix := Unit) (Name := ℕ) (U := UU) (Lvl := ℕ) (Val := Elt F) (τ := τ) osem c ∗ unscopedSems0 c ∗ dealt m ρ c) : sProp 𝕄)
    ⊢ |={Set.univ}=> bigSep Finset.univ (armed m ρ) :=
  ((bigSep_mono fun c _ => share_cells m ρ c).trans (bigSep_fupd _ _)).trans (BI.fupd_mono (tell_all m ρ))

/-! ## The launch credit -/

theorem sum_ahead (t : Fin 3) (c : Dev nD) (n : ℕ) : (∑ d : Dev nD, if c = ahead t d then n else 0) = n := by
  rw [Finset.sum_eq_single (behind t c)]
  · rw [if_pos (ahead_behind t c).symm]
  · intro d _ hd
    exact if_neg fun h => hd (by rw [h, behind_ahead])
  · exact fun h => absurd (Finset.mem_univ _) h

theorem at_bar (a c : Dev nD) (n : ℕ) : (tallyAt (barCell a) () n : CellTallies nD τ sig Unit) (barCell c) () = if c = a then n else 0 := by
  rw [tallyAt_apply]
  by_cases h : c = a
  · subst h; rw [if_pos ⟨rfl, rfl⟩, if_pos rfl]
  · rw [if_neg (fun h' => h (bar_eq h'.1)), if_neg h]
theorem at_x_bar (k : Fin 4) (t : Fin 3) (a c : Dev nD) (n : ℕ) : (tallyAt (xCell k t a) () n : CellTallies nD τ sig Unit) (barCell c) () = 0 := by
  rw [tallyAt_apply, if_neg (fun h' => x_ne_bar h'.1.symm)]
theorem at_bar_x (k : Fin 4) (t : Fin 3) (a c : Dev nD) (n : ℕ) : (tallyAt (barCell a) () n : CellTallies nD τ sig Unit) (xCell k t c) () = 0 := by
  rw [tallyAt_apply, if_neg (fun h' => x_ne_bar h'.1)]
theorem at_x (k k' : Fin 4) (t t' : Fin 3) (a c : Dev nD) (n : ℕ) :
    (tallyAt (xCell k' t' a) () n : CellTallies nD τ sig Unit) (xCell k t c) () = if (k = k' ∧ t = t') ∧ c = a then n else 0 := by
  rw [tallyAt_apply]
  by_cases h : (k = k' ∧ t = t') ∧ c = a
  · obtain ⟨⟨rfl, rfl⟩, rfl⟩ := h
    rw [if_pos ⟨rfl, rfl⟩, if_pos ⟨⟨rfl, rfl⟩, rfl⟩]
  · rw [if_neg (fun h' => h ⟨⟨(x_eq h'.1).1, (x_eq h'.1).2.1⟩, (x_eq h'.1).2.2⟩), if_neg h]

theorem owed_list (d : Dev nD) (g : GSem nD τ sig) : due d 9 g ()
    = tallyAt (xCell 3 2 (ahead 2 d)) () (xamt 3) g () + tallyAt (xCell 2 2 (ahead 2 d)) () (xamt 2) g ()
      + tallyAt (xCell 3 1 (ahead 1 d)) () (xamt 3) g () + tallyAt (xCell 2 1 (ahead 1 d)) () (xamt 2) g ()
      + tallyAt (xCell 3 0 (ahead 0 d)) () (xamt 3) g () + tallyAt (xCell 2 0 (ahead 0 d)) () (xamt 2) g ()
      + tallyAt (barCell (ahead 2 d)) () 1 g () + tallyAt (barCell (ahead 1 d)) () 1 g () + tallyAt (barCell (ahead 0 d)) () 1 g () := by
  have h0 : due d 0 g () = 0 := rfl
  simp only [due_succ d 8, due_succ d 7, due_succ d 6, due_succ d 5, due_succ d 4, due_succ d 3, due_succ d 2, due_succ d 1, due_succ d 0, Pi.add_apply, Finsupp.add_apply, h0, Nat.zero_add]
  rfl

theorem launch_bar (c : Dev nD) :
    tallyOn (barCell c) (launchCredit (Pipeline.owing fun d => due d 9) 0 (barCell c)) = (tallyAt (barCell c) () 3 : CellTallies nD τ sig Unit) := by
  unfold tallyAt
  refine congrArg _ (Finsupp.ext fun u => ?_)
  cases u
  rw [Pipeline.launchCredit_owing, Finsupp.single_eq_same]
  simp only [owed_list, at_x_bar, at_bar, Nat.zero_add, Finset.sum_add_distrib, sum_ahead]

theorem launch_x (k : Fin 4) (hk : k = 2 ∨ k = 3) (t : Fin 3) (c : Dev nD) :
    tallyOn (xCell k t c) (launchCredit (Pipeline.owing fun d => due d 9) 0 (xCell k t c)) = (tallyAt (xCell k t c) () (xamt k) : CellTallies nD τ sig Unit) := by
  unfold tallyAt
  refine congrArg _ (Finsupp.ext fun u => ?_)
  cases u
  rw [Pipeline.launchCredit_owing, Finsupp.single_eq_same]
  rcases hk with rfl | rfl <;> fin_cases t <;>
    simp [owed_list, at_bar_x, at_x, Finset.sum_add_distrib, sum_ahead, -Finset.sum_ite_eq, -Finset.sum_ite_eq', -Finset.sum_boole]

/-- What a device's peers owe it. -/
theorem credit (c : Dev nD) : (Pipeline.launchCred (fun d => due d 9) c : sProp 𝕄) ⊢ dues c := by
  unfold Pipeline.launchCred dues
  rw [sep_fin3, sep_fin3, ← launch_bar c, ← launch_x 2 (Or.inl rfl) 0 c, ← launch_x 2 (Or.inl rfl) 1 c, ← launch_x 2 (Or.inl rfl) 2 c,
    ← launch_x 3 (Or.inr rfl) 0 c, ← launch_x 3 (Or.inr rfl) 1 c, ← launch_x 3 (Or.inr rfl) 2 c]
  iintro H
  ihave H' := (show (bigSep Finset.univ fun sm : SemLoc sig => (cred (tallyOn ((c : Thread nD τ), sm) (launchCredit (Pipeline.owing fun d => due d 9) 0 ((c : Thread nD τ), sm))) : sProp 𝕄))
      ⊢ bigSep (Finset.univ.map ⟨csem, csem_inj⟩) fun sm : SemLoc sig => (cred (tallyOn ((c : Thread nD τ), sm) (launchCredit (Pipeline.owing fun d => due d 9) 0 ((c : Thread nD τ), sm))) : sProp 𝕄)
      from BI.bigSep_subset (Finset.subset_univ _)) $$ H
  ihave H'' := (Entails.of_eq ((bigSep_map ⟨csem, csem_inj⟩).trans ((sep_cell _).trans (congrArg _ (sep_cells _))))) $$ H'
  icases H'' with ⟨HB, -, -, -, -, -, -, H20, H21, H22, H30, H31, H32⟩
  isplitl [HB]; · iexact HB
  isplitl [H20 H21 H22]
  · isplitl [H20]; · iexact H20
    isplitl [H21]; · iexact H21
    iexact H22
  isplitl [H30]; · iexact H30
  isplitl [H31]; · iexact H31
  iexact H32

end Cert.KernelIdeal.Exchange

end
-- ==== Proof.Run.lean ====
/-
# The run

The scratch buffers are cut into slots for the body and joined again after it. With what the launch mints, every
device's run of the kernel ends, in any order, with the arrays at what the body leaves in them and every semaphore's
counter back at zero.
-/
module

public import proofs.«01_k».proof.Proof.Mint
public import Idealize.ShloMosaic.Lib.Pipeline.CollectiveSegs

@[expose] public section

noncomputable section

namespace Cert.KernelIdeal.Exchange

open Cert.KernelIdeal Cert.KernelIdeal.Gen Cert.Slots
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats m ρ 0 c).share w = fullShare := by unfold Dat.share; split <;> rfl

/-! ## The scratch buffers, cut into slots and whole again -/

/-- The rectangles that take one index each along the leading dimension of an array of three dimensions -/
theorem lead_disjoint {n a b : ℕ} (inb : ∀ t : Fin n, ∀ k, (![t.val, 0, 0] : Fin 3 → ℕ) k + (![1, a, b] : Fin 3 → ℕ) k ≤ (![n, a, b] : Fin 3 → ℕ) k)
    (t t' : Fin n) (h : t ≠ t') :
    Disjoint (Rect.unit (s := ⟨3, ![n, a, b]⟩) ![t.val, 0, 0] ![1, a, b] (inb t)).set (Rect.unit (s := ⟨3, ![n, a, b]⟩) ![t'.val, 0, 0] ![1, a, b] (inb t')).set := by
  rw [Finset.disjoint_left]
  intro i hi hi'
  rw [Rect.mem_set_unit] at hi hi'
  have h1 := hi 0
  have h2 := hi' 0
  exact h (Fin.ext (by change t.val ≤ _ ∧ _ < t.val + 1 at h1; change t'.val ≤ _ ∧ _ < t'.val + 1 at h2; omega))

/-- are all of it. -/
theorem lead_cover {n a b : ℕ} (inb : ∀ t : Fin n, ∀ k, (![t.val, 0, 0] : Fin 3 → ℕ) k + (![1, a, b] : Fin 3 → ℕ) k ≤ (![n, a, b] : Fin 3 → ℕ) k) :
    (Finset.univ : Finset (Fin n)).biUnion (fun t => (Rect.unit (s := ⟨3, ![n, a, b]⟩) ![t.val, 0, 0] ![1, a, b] (inb t)).set) = Finset.univ := by
  refine Finset.eq_univ_iff_forall.mpr fun i => ?_
  have h0 : (i 0 : ℕ) < n := (i 0).isLt
  have h1 : (i 1 : ℕ) < a := (i 1).isLt
  have h2 : (i 2 : ℕ) < b := (i 2).isLt
  refine Finset.mem_biUnion.mpr ⟨⟨(i 0 : ℕ), h0⟩, Finset.mem_univ _, ?_⟩
  rw [Rect.mem_set_unit]
  intro k
  match k with
  | 0 => exact ⟨le_refl _, Nat.lt_succ_self _⟩
  | 1 => exact ⟨Nat.zero_le _, by change _ < 0 + a; omega⟩
  | 2 => exact ⟨Nat.zero_le _, by change _ < 0 + b; omega⟩

/-- The scratch buffers as they are allotted, cut; -/
theorem to_slots (c : Dev nD) : (Pipeline.scopedRest (Ix := Unit) (Name := ℕ) (U := UU) (Lvl := ℕ) (Val := Elt F) cfg0.spec c : sProp 𝕄) ⊢ slots c := by
  rw [show (cfg0.spec : Fin 4 → _) = spec0 from rfl, scopedRest0_eq]
  unfold slots
  iintro ⟨⟨%f0, H0⟩, ⟨%f1, H1⟩, ⟨%f2, H2⟩, ⟨%f3, H3⟩, ⟨%f4, H4⟩⟩
  isplitl [H0]; · iapply (cut (c : Thread nD τ) cc0_scratch0 wRect (fun _ _ => rfl) (lead_disjoint w_inb) (lead_cover w_inb) f0); iexact H0
  isplitl [H1]; · iapply (cut (c : Thread nD τ) cc0_scratch1 qRect (fun _ _ => rfl) (lead_disjoint q_inb) (lead_cover q_inb) f1); iexact H1
  isplitl [H2]; · iapply (cut (c : Thread nD τ) cc0_scratch2 qRect (fun _ _ => rfl) (lead_disjoint q_inb) (lead_cover q_inb) f2); iexact H2
  isplitl [H3]; · iapply (cut (c : Thread nD τ) cc0_scratch3 sRect (fun _ _ => rfl) (lead_disjoint s_inb) (lead_cover s_inb) f3); iexact H3
  iapply (cut (c : Thread nD τ) cc0_scratch4 sRect (fun _ _ => rfl) (lead_disjoint s_inb) (lead_cover s_inb) f4); iexact H4

/-- the slots, joined. -/
theorem of_slots (c : Dev nD) : (slots c : sProp 𝕄) ⊢ Pipeline.scopedRest (Ix := Unit) (Name := ℕ) (U := UU) (Lvl := ℕ) (Val := Elt F) cfg0.spec c := by
  rw [show (cfg0.spec : Fin 4 → _) = spec0 from rfl, scopedRest0_eq]
  unfold slots
  iintro ⟨H0, H1, H2, H3, H4⟩
  isplitl [H0]; · iapply (uncut (c : Thread nD τ) cc0_scratch0 wRect (fun _ _ => rfl) (lead_disjoint w_inb) (lead_cover w_inb)); iexact H0
  isplitl [H1]; · iapply (uncut (c : Thread nD τ) cc0_scratch1 qRect (fun _ _ => rfl) (lead_disjoint q_inb) (lead_cover q_inb)); iexact H1
  isplitl [H2]; · iapply (uncut (c : Thread nD τ) cc0_scratch2 qRect (fun _ _ => rfl) (lead_disjoint q_inb) (lead_cover q_inb)); iexact H2
  isplitl [H3]; · iapply (uncut (c : Thread nD τ) cc0_scratch3 sRect (fun _ _ => rfl) (lead_disjoint s_inb) (lead_cover s_inb)); iexact H3
  iapply (uncut (c : Thread nD τ) cc0_scratch4 sRect (fun _ _ => rfl) (lead_disjoint s_inb) (lead_cover s_inb)); iexact H4

/-! ## Into the kernel and out of it -/

theorem into_entry (c : Dev nD) :
    iprop(Pipeline.unscopedRestP Pipeline.Prefetch.none cfg0.spec c (fun b => m ((c : Thread nD τ).loc b)) ∗ levAts L lv
        ∗ Pipeline.launchCred (fun d => due d 9) c ∗ prngReg c (ρ c) ∗ armed m ρ c)
      ⊢ |={Set.univ}=> iprop(entry m ρ c ∗ emp) := by
  rw [Pipeline.unscopedRestP_none, show (cfg0.spec : Fin 4 → _) = spec0 from rfl, unscopedRest0_eq]
  unfold armed known
  iintro ⟨Hw, #Hlev, Hcr, -, ⟨%K, ⟨#HI, #HR⟩, Hpl, Htk, Hv⟩⟩
  ihave Hdu := (credit (F := F) c) $$ Hcr
  imodintro
  unfold entry
  isplitl
  · isplitr
    · iexists K
      unfold rec
      isplitr; · iexact Hlev
      isplitr; · iexact HI
      iexact HR
    isplitl [Hw]; · unfold wPts; iexact Hw
    isplitl [Hv]; · iexact Hv
    isplitl [Htk]; · iexact Htk
    isplitl [Hdu]; · iexact Hdu
    iexact Hpl
  · iempintro

theorem into_body (c : Dev nD) :
    iprop(entry m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨He, -, Hr⟩
  isplitl [He]; · iexact He
  iapply (to_slots (F := F) c)
  iexact Hr

/-- What outlives the kernel beside its arrays: the weights it read, and the barrier's counter. -/
def leaves (c : Dev nD) : sProp 𝕄 := iprop(wPts m ρ c ∗ unscopedSems0 c)

theorem out_of_body (c : Dev nD) :
    (dats m ρ 0 c).Φ (Fin.last cfg0.N) ⊢ iprop(leaves m ρ c ∗ Pipeline.ownSems0 osem c ∗ Pipeline.scopedRest cfg0.spec c) := by
  rw [show (dats m ρ 0 c).Φ (Fin.last cfg0.N) = Φ₁ m ρ c from rfl, own_sems]
  unfold Φ₁ leaves zeros
  rw [far_sems]
  iintro ⟨Hw, Hsl, Hb, Hv, Hx⟩
  isplitl [Hw Hb]
  · isplitl [Hw]; · iexact Hw
    iexact Hb
  isplitl [Hv Hx]
  · isplitl [Hv]; · iexact Hv
    iexact Hx
  iapply (of_slots (F := F) c)
  iexact Hsl

theorem waits (c : Dev nD) : (levAts L lv : sProp 𝕄) ⊢ Pipeline.cellsWaits cfgs (dats m ρ) () 0 c :=
  Pipeline.cellsWaits_intro cfgs (dats m ρ) () 0 c fun w s t => by
    have hl : level (.dma ((cfg0.win w).sem s)) ≤ 0 := by fin_cases w <;> fin_cases s <;> decide
    rcases t with ⟨_ | _, ht⟩
    · exact mayWait c _ 9 0 hl fun k _ => level_pay c k
    · exact mayWait c _ 0 0 hl fun k hk => absurd hk (Nat.not_lt_zero k)

/-! ## The run -/

/-- What a window's array ends at. -/
def finalA (c : Dev nD) (w : Fin cfg0.W) : Buf (Elt F) ((cfg0.win w).arr.view.loc (c : Thread nD τ)) := (dats m ρ 0 c).arrAt w cfg0.N

/-- Every window's array at what it ends at, and the weights as they were. -/
def Ends : PUnit × MemSt nD τ sig (Elt F) → Prop := fun r => ∀ c : Dev nD,
  (∀ w : Fin cfg0.W, r.2.mem ((cfg0.win w).arr.view.loc (c : Thread nD τ)) = finalA m ρ c w)
    ∧ r.2.mem ((c : Thread nD τ).loc main_arg1) = m ((c : Thread nD τ).loc main_arg1)

set_option maxRecDepth 8000 in
/-- For any float values, from any memory with zero counters: the four devices' runs end, whatever their order, with the
    arrays at what they end at and with every counter at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ osem_facts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => due d 9) (howed₀ := fun _ => rfl) (howedN := fun _ => rfl)
    (L := L) (lv := lv) (hL := L_of_ne) (hwaits := waits m ρ)
    (G := dealt m ρ) (G' := armed m ρ) (u₀ := u₀)
    (hu₀ := by
      unfold u₀
      iintro Hu
      ihave H := (ownU_pair _ _) $$ Hu
      icases H with ⟨HP, HX⟩
      ihave HX' := (own_pair_emb embR (initOf allCells allToks) (1 : Counters)) $$ HX
      icases HX' with ⟨HX, -⟩
      imod (fund_dealt m ρ) $$ HX with HG
      imodintro
      isplitl [HP] <;> iassumption)
    (hglob := share_all m ρ)
    (hA := fun _ _ => rfl) (hpf := fun _ k => k.elim0)
    (X := entry m ρ) (Y := leaves m ρ) (Z := fun _ => iprop(emp))
    (hX := into_entry m ρ) (hin := into_body m ρ) (hout := out_of_body m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      unfold leaves wPts
      iintro ⟨⟨Hw, Hu⟩, -, HSI⟩
      icombine HSI Hw gives %h
      imod (Pipeline.unscopedSems0_read (X := unscopedSems0 c) (c := c) fupd_intro s') $$ [Hu HSI] with ⟨%hs, HSI⟩
      · isplitl [Hu] <;> iassumption
      imodintro
      isplitr
      · ipureintro; exact ⟨hs, Buf.eq_of_forall_mem_univ h⟩
      iexact HSI)
    (hQ := fun _ h hs => ⟨fun c => ⟨fun w => (h c).1 w, (h c).2.2.2⟩, sem_eq_zero hs fun c => (h c).2.2.1⟩)

end Cert.KernelIdeal.Exchange

end
-- ==== Proof.Finals.lean ====
/-
# The arrays at the end

Each window is one block that is its whole array. So the body's inputs are the device's arguments, and the device's result
array ends at what the body left for it.
-/
module

public import proofs.«01_k».proof.Proof.Run

@[expose] public section

noncomputable section

namespace Cert.KernelIdeal.Exchange

open Cert.KernelIdeal Cert.KernelIdeal.Gen Cert.Slots
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The input arrays and what is staged of them -/

/-- Reading the one block of a window that is a whole array reads the array: of `x`, -/
theorem whole_x (f : main_arg0.ty.Contents (Elt F)) : (win0_0.blk (0 : Fin 1)).view.read (Elt F) f = f :=
  Memref.read_access_unit_zero (Elt F) main_arg0
    (show (fun a => (win0_0.index (0 : Fin 1)) a * main_arg0.ty.shape.size a) = fun _ => 0 from funext fun a => by fin_cases a <;> decide)
    (fun a => by fin_cases a <;> decide) f
/-- of the two scales, -/
theorem whole_a (f : main_arg2.ty.Contents (Elt F)) : (win0_1.blk (0 : Fin 1)).view.read (Elt F) f = f :=
  Memref.read_access_unit_zero (Elt F) main_arg2
    (show (fun a => (win0_1.index (0 : Fin 1)) a * main_arg2.ty.shape.size a) = fun _ => 0 from funext fun a => by fin_cases a <;> decide)
    (fun a => by fin_cases a <;> decide) f
theorem whole_b (f : main_arg3.ty.Contents (Elt F)) : (win0_2.blk (0 : Fin 1)).view.read (Elt F) f = f :=
  Memref.read_access_unit_zero (Elt F) main_arg3
    (show (fun a => (win0_2.index (0 : Fin 1)) a * main_arg3.ty.shape.size a) = fun _ => 0 from funext fun a => by fin_cases a <;> decide)
    (fun a => by fin_cases a <;> decide) f
/-- and of the result. -/
theorem whole_o (f : main_v1.ty.Contents (Elt F)) : (win0_3.blk (0 : Fin 1)).view.read (Elt F) f = f :=
  Memref.read_access_unit_zero (Elt F) main_v1
    (show (fun a => (win0_3.index (0 : Fin 1)) a * main_v1.ty.shape.size a) = fun _ => 0 from funext fun a => by fin_cases a <;> decide)
    (fun a => by fin_cases a <;> decide) f

theorem xIn_eq (c : Dev nD) : xIn m ρ c = m ((c : Thread nD τ).loc main_arg0) := whole_x _
theorem aIn_eq (c : Dev nD) : aIn m ρ c = m ((c : Thread nD τ).loc main_arg2) := whole_a _
theorem bIn_eq (c : Dev nD) : bIn m ρ c = m ((c : Thread nD τ).loc main_arg3) := whole_b _

/-- The input arrays end as they were. -/
theorem final_x (c : Dev nD) : finalA m ρ c (0 : Fin 4) = m ((c : Thread nD τ).loc main_arg0) := (dats m ρ 0 c).arrAt_in (0 : Fin 4) rfl _
theorem final_a (c : Dev nD) : finalA m ρ c (1 : Fin 4) = m ((c : Thread nD τ).loc main_arg2) := (dats m ρ 0 c).arrAt_in (1 : Fin 4) rfl _
theorem final_b (c : Dev nD) : finalA m ρ c (2 : Fin 4) = m ((c : Thread nD τ).loc main_arg3) := (dats m ρ 0 c).arrAt_in (2 : Fin 4) rfl _

/-- The result array ends as the body left it in the staging buffer. -/
theorem final_o (c : Dev nD) : finalA m ρ c (3 : Fin 4) = outAt m ρ c := by
  have h : (win0_3.blk (0 : Fin 1)).view.read (Elt F) (finalA m ρ c (3 : Fin 4)) = outAt m ρ c := by
    unfold finalA
    rw [show cfg0.N = ((0 : Fin 1) : Fin cfg0.N).val + 1 from rfl, (dats m ρ 0 c).arrAt_succ (3 : Fin 4) (0 : Fin 1),
      show (cfg0.win (3 : Fin 4)).flush (0 : Fin 1) = true from by decide, if_pos rfl]
    exact View.read_write_univ _ _
  exact (whole_o _).symm.trans h

/-! ## The run, at the arrays -/

/-- On every device: the result array ends at the device's result, the arguments are unchanged, and all counters are
    zero. -/
theorem run_arrays : θ_run defs (onTc (τ := τ) (main (F := F))) ⟨m, fun _ => 0, ρ⟩ (fun r =>
    (∀ c : Dev nD, r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) := by
  refine (θ_run defs _ _).mono ?_ (run_main (F := F) m ρ)
  rintro r ⟨h, hs⟩
  exact ⟨fun c => ⟨((h c).1 (3 : Fin 4)).trans (final_o m ρ c), ((h c).1 (0 : Fin 4)).trans (final_x m ρ c), (h c).2,
    ((h c).1 (1 : Fin 4)).trans (final_a m ρ c), ((h c).1 (2 : Fin 4)).trans (final_b m ρ c)⟩, hs⟩

end Cert.KernelIdeal.Exchange

end
-- ==== Proof.Quant.lean ====
module

public import Idealize.ShloMosaic.Lib.Pointwise
public import Idealize.ShloMosaic.PureOps.Ideal.Laws

@[expose] public section

noncomputable section

/-!
  # Quantising to eight bits

  The kernel turns a rounded float into an eight-bit integer in one conversion, which holds what is out of range at the
  nearer end. The reference limits the rounded float to the range, converts to thirty-two bits, and keeps eight of them.
  Over the extended reals the two give the same integer, whatever the float.
-/

namespace Cert.KernelIdeal.Exchange

open Idealize.ShloMosaic

/-- The word both programs write for 127 reads as 127. -/
theorem word_127 : Ideal.ofBits .f32 0x42FE0000#32 = ((127 : ℝ) : EReal) := by
  simp [Ideal.ofBits, Ideal.ieee]
  rw [← EReal.coe_mul]
  norm_num

/-- The word the reference writes for -128 reads as -128. -/
theorem word_neg_128 : Ideal.ofBits .f32 0xC3000000#32 = ((-128 : ℝ) : EReal) := by
  simp [Ideal.ofBits, Ideal.ieee]
  rw [← EReal.coe_mul]
  norm_num

/-- An integer of the eight-bit range is the same eight bits whether written at eight bits or at thirty-two and cut. -/
theorem cut_word (z : ℤ) (h0 : -128 ≤ z) (h1 : z ≤ 127) :
    (BitVec.ofInt 32 z).setWidth 8 = BitVec.ofInt 8 z := by
  apply BitVec.eq_of_toNat_eq
  rw [BitVec.toNat_setWidth, BitVec.toNat_ofInt, BitVec.toNat_ofInt]
  omega

/-- Rounding a whole number toward zero leaves it. -/
theorem toward_zero_int (z : ℤ) : (if (0 : ℝ) ≤ (z : ℝ) then ⌊(z : ℝ)⌋ else ⌈(z : ℝ)⌉) = z := by
  simp

/-- The limited thirty-two-bit conversion cut to eight bits is the eight-bit conversion, at every whole number. -/
theorem clip_int (z : ℤ) :
    (Ideal.fptosi 32 (min (max ((z : ℝ) : EReal) ((-128 : ℝ) : EReal)) ((127 : ℝ) : EReal))).setWidth 8
      = Ideal.fptosi 8 ((z : ℝ) : EReal) := by
  have h : min (max ((z : ℝ) : EReal) ((-128 : ℝ) : EReal)) ((127 : ℝ) : EReal)
      = (((min (max z (-128)) 127 : ℤ) : ℝ) : EReal) := by
    push_cast
    rfl
  rw [h, Ideal.fptosi, Ideal.fptosi, Ideal.toIntClamped_coe, Ideal.toIntClamped_coe, toward_zero_int,
    toward_zero_int, cut_word]
  · congr 1
    norm_num
    omega
  · norm_num
  · norm_num

/-- The same at any rounded float, the infinities among them. -/
theorem clip_rounded (x : EReal) :
    (Ideal.fptosi 32 (min (max (Ideal.liftRound Ideal.roundHalfEven x) (Ideal.ofBits .f32 0xC3000000#32))
        (Ideal.ofBits .f32 0x42FE0000#32))).setWidth 8
      = Ideal.fptosi 8 (Ideal.liftRound Ideal.roundHalfEven x) := by
  rw [word_127, word_neg_128]
  induction x with
  | bot =>
    rw [Ideal.liftRound_bot, max_eq_right bot_le]
    rw [min_eq_left (by exact_mod_cast (by norm_num : (-128 : ℝ) ≤ 127))]
    have h : ((-128 : ℝ) : EReal) = (((-128 : ℤ) : ℝ) : EReal) := by norm_num
    rw [h, Ideal.fptosi, Ideal.fptosi, Ideal.toIntClamped_coe, toward_zero_int, Ideal.toIntClamped_bot]
    decide
  | coe r =>
    rw [Ideal.liftRound_coe]
    exact clip_int _
  | top =>
    rw [Ideal.liftRound_top, max_eq_left le_top, min_eq_right le_top]
    have h : ((127 : ℝ) : EReal) = (((127 : ℤ) : ℝ) : EReal) := by norm_num
    rw [h, Ideal.fptosi, Ideal.fptosi, Ideal.toIntClamped_coe, toward_zero_int, Ideal.toIntClamped_top]
    decide

/-- Widening an eight-bit integer keeps its value. -/
theorem widen_value (b : BitVec 8) : (b.signExtend 32).toInt = b.toInt :=
  BitVec.toInt_signExtend_of_le (by decide)

end Cert.KernelIdeal.Exchange

end
-- ==== Proof.Whole.lean ====
module

public import proofs.«01_k».proof.Proof.RefRun
public import proofs.«01_k».proof.Proof.Quant

@[expose] public section

noncomputable section

/-!
  # What the reference computes, entry by entry

  The reference reads its product as four row blocks by four column blocks. Here each of its steps is named and read at
  one entry: row block `b`, row `r` in it, column block `e`, column `j` in it.
-/

namespace Cert.ReferenceIdeal.Whole

open Cert.ReferenceIdeal Cert.ReferenceIdeal.Gen
open Cert.KernelIdeal.Exchange (clip_rounded widen_value)
open Idealize.ShloMosaic Idealize.ShloMosaic.TcCoe Idealize.SL.Sem

variable (x : FVec Ideal S4096x4096 .f32) (w : FVec Ideal S4096x2048 .f32) (sa sb : FVec Ideal S1 .f32)

set_option backward.proofsInPublic true in
/-- Row `r` of row block `b`. -/
def rowAt (b : Fin 4) (r : Fin 1024) : Fin 4096 := ⟨b.val * 1024 + r.val, by omega⟩

set_option backward.proofsInPublic true in
/-- Column `j` of column block `e`. -/
def colAt (e : Fin 4) (j : Fin 512) : Fin 2048 := ⟨e.val * 512 + j.val, by omega⟩

/-- Entry (`r`, `j`) of the product of row block `b` with column block `e`. -/
def product (b : Fin 4) (r : Fin 1024) (e : Fin 4) (j : Fin 512) : EReal :=
  ∑ k : Fin 4096, x (ix2 (rowAt b r) k) * w (ix2 k (colAt e j))

/-- The largest magnitude in column `j` of that product block, held above the smallest the quantiser divides by. -/
def peak (b : Fin 4) (e : Fin 4) (j : Fin 512) : EReal :=
  max (Finset.fold max (Ideal.ofBits .f32 0xFF800000#32) (fun r => FloatOps.absf (F := Ideal) (φ := .f32) (product x w b r e j)) Finset.univ)
    (Ideal.ofBits .f32 0x1E3CE508#32)

/-- An entry `p` of a product block that crosses between devices: quantised against the peak `a` of its column, then
    scaled back and held at zero from below. -/
def crossed (p a s : EReal) : EReal :=
  max (FloatOps.sitofp (F := Ideal) .f32
        (FloatOps.fptosi (F := Ideal) (φ := .f32) 8 (Ideal.liftRound Ideal.roundHalfEven (p * Ideal.div (Ideal.ofBits .f32 0x42FE0000#32) a)) : BitVec 8)
      * (a * Ideal.div s (Ideal.ofBits .f32 0x42FE0000#32))) 0

/-- An entry `p` of a product block that stays where it was computed: scaled and held at zero from below. -/
def stayed (p s : EReal) : EReal := max (p * s) 0

/-- The result's entry in row block `b`, column block `e`. -/
def resultAt (s : EReal) (b : Fin 4) (r : Fin 1024) (e : Fin 4) (j : Fin 512) : EReal :=
  if b = e then stayed (product x w b r e j) s else crossed (product x w b r e j) (peak x w b e j) s

/-! ## The reference's steps -/

/-- The product, in blocks. -/
def accT : FVec Ideal S4x1024x4x512 .f32 :=
  shapeCast _ (Host.dotGeneral dot_S4096x4096_S4096x2048_S4096x2048_1_0_0_1_n_n none x w) shapeCasts_S4096x2048_S4x1024x4x512

/-- The columns' peaks. -/
def peakT : FVec Ideal S4x1x4x512 .f32 :=
  maximumf (broadcastInDim S4x1x4x512 ![0, 2, 3] bcast_S4x4x512_S4x1x4x512_0_2_3 (Host.reduce FloatOps.maximumf (Host.absf (accT x w)) (constant S_ .f32 0xFF800000#32) reducesTo_S4x1024x4x512_S4x4x512_d1 h_S_)) (broadcastInDim S4x1x4x512 ![] bcast_S_S4x1x4x512 (constant S_ .f32 0x1E3CE508#32))

/-- The product of the two scales. -/
def scaleT : FVec Ideal S_ .f32 := mulf (shapeCast _ sa shapeCasts_S1_S_) (shapeCast _ sb shapeCasts_S1_S_)

/-- What the quantiser multiplies by. -/
def gainT : FVec Ideal S4x1x4x512 .f32 :=
  Host.divf (broadcastInDim S4x1x4x512 ![] bcast_S_S4x1x4x512 (constant S_ .f32 0x42FE0000#32)) (peakT x w)

/-- The quantised product. -/
def quantT : IVec S4x1024x4x512 32 :=
  extsi 32 (trunci 8 (fptosi 32 (minimumf (maximumf (Host.roundeven (mulf (accT x w) (broadcastInDim S4x1024x4x512 ![0, 1, 2, 3] bcast_S4x1x4x512_S4x1024x4x512_0_1_2_3 (gainT x w)))) (broadcastInDim S4x1024x4x512 ![] bcast_S_S4x1024x4x512 (constant S_ .f32 0xC3000000#32))) (broadcastInDim S4x1024x4x512 ![] bcast_S_S4x1024x4x512 (constant S_ .f32 0x42FE0000#32)))) natLt_8_32) natLt_8_32

/-- What a quantised column is scaled back by. -/
def backT : FVec Ideal S4x1x4x512 .f32 :=
  mulf (peakT x w) (broadcastInDim S4x1x4x512 ![] bcast_S_S4x1x4x512 (Host.divf (scaleT sa sb) (constant S_ .f32 0x42FE0000#32)))

/-- The blocks that cross, scaled back. -/
def sentT : FVec Ideal S4x1024x4x512 .f32 :=
  mulf (sitofp .f32 (quantT x w)) (broadcastInDim S4x1024x4x512 ![0, 1, 2, 3] bcast_S4x1x4x512_S4x1024x4x512_0_1_2_3 (backT x w sa sb))

/-- The result, in blocks. -/
def blocksT : FVec Ideal S4x1024x4x512 .f32 :=
  maximumf (select (cmpi .eq (iotaInDim S4x1024x4x512 32 0) (iotaInDim S4x1024x4x512 32 2)) (mulf (accT x w) (broadcastInDim S4x1024x4x512 ![] bcast_S_S4x1024x4x512 (scaleT sa sb))) (sentT x w sa sb)) (broadcastInDim S4x1024x4x512 ![] bcast_S_S4x1024x4x512 (constant S_ .f32 0x00000000#32))

/-- The result. -/
def wholeT : FVec Ideal S4096x2048 .f32 := shapeCast _ (blocksT x w sa sb) shapeCasts_S4x1024x4x512_S4096x2048

/-- The reference runs: its result ends at the steps' composed value, and its arguments are unchanged. -/
theorem run_whole (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36)
          = wholeT (m (c.tc.loc main_arg0)) (m (c.tc.loc main_arg1)) (m (c.tc.loc main_arg2)) (m (c.tc.loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) :=
  (θ_run defs _ _).mono (fun _ h c => h c) (Value.run m ρ)

/-! ## Reading them at an entry -/

/-- A row of columns repeated down the rows. -/
theorem down_at (y : FVec Ideal S4x1x4x512 .f32) (b : Fin 4) (r : Fin 1024) (e : Fin 4) (j : Fin 512) :
    broadcastInDim S4x1024x4x512 ![0, 1, 2, 3] bcast_S4x1x4x512_S4x1024x4x512_0_1_2_3 y (ix4 b r e j) = y (ix4 b 0 e j) := by
  pointwise []

/-- A row of columns given an axis of one row. -/
theorem lift_at (y : FVec Ideal S4x4x512 .f32) (b : Fin 4) (e : Fin 4) (j : Fin 512) :
    broadcastInDim S4x1x4x512 ![0, 2, 3] bcast_S4x4x512_S4x1x4x512_0_2_3 y (ix4 b 0 e j) = y (ix3 b e j) := by
  pointwise []

/-- One number in every column. -/
theorem flat_at (y : FVec Ideal S_ .f32) (i : S4x1x4x512.Idx) :
    broadcastInDim S4x1x4x512 ![] bcast_S_S4x1x4x512 y i = y ix0 := by
  show y _ = y _
  exact congrArg y (funext fun a => a.elim0)

/-- One number in every entry. -/
theorem fill_at (y : FVec Ideal S_ .f32) (i : S4x1024x4x512.Idx) :
    broadcastInDim S4x1024x4x512 ![] bcast_S_S4x1024x4x512 y i = y ix0 := by
  show y _ = y _
  exact congrArg y (funext fun a => a.elim0)

/-- The greatest entry down a column. -/
theorem most_at (y : FVec Ideal S4x1024x4x512 .f32) (b : Fin 4) (e : Fin 4) (j : Fin 512) :
    Host.reduce FloatOps.maximumf y (constant S_ .f32 0xFF800000#32) reducesTo_S4x1024x4x512_S4x4x512_d1 h_S_ (ix3 b e j)
      = Finset.fold max (Ideal.ofBits .f32 0xFF800000#32) (fun k => y (ix4 b k e j)) Finset.univ := by
  pointwise []

theorem accT_at (b : Fin 4) (r : Fin 1024) (e : Fin 4) (j : Fin 512) :
    accT x w (ix4 b r e j) = product x w b r e j := by
  pointwise [accT, product, rowAt, colAt]

theorem scaleT_at (i : S_.Idx) : scaleT sa sb i = sa (ix1 0) * sb (ix1 0) := by
  pointwise [scaleT]

theorem peakT_at (b : Fin 4) (e : Fin 4) (j : Fin 512) : peakT x w (ix4 b 0 e j) = peak x w b e j := by
  unfold peakT
  rw [ValueIdx.maximumf_apply, lift_at, flat_at, most_at]
  have h (k : Fin 1024) : Host.absf (accT x w) (ix4 b k e j) = FloatOps.absf (F := Ideal) (φ := .f32) (product x w b k e j) := by
    rw [← accT_at]
    rfl
  simp only [h]
  rfl

/-- One number divided by each column's. -/
theorem over_at (u v : FVec Ideal S4x1x4x512 .f32) (i : S4x1x4x512.Idx) : Host.divf u v i = Ideal.div (u i) (v i) := rfl

theorem gainT_at (b : Fin 4) (e : Fin 4) (j : Fin 512) :
    gainT x w (ix4 b 0 e j) = Ideal.div (Ideal.ofBits .f32 0x42FE0000#32) (peak x w b e j) := by
  unfold gainT
  rw [over_at, flat_at, peakT_at]
  rfl

/-- Quantising, at an entry: `u` the product, `g` its gain, `lo` and `hi` the limits. -/
theorem quant_at (u g lo hi : FVec Ideal S4x1024x4x512 .f32) (i : S4x1024x4x512.Idx) :
    extsi 32 (trunci 8 (fptosi 32 (minimumf (maximumf (Host.roundeven (mulf u g)) lo) hi)) natLt_8_32) natLt_8_32 i
      = ((Ideal.fptosi 32 (min (max (Ideal.liftRound Ideal.roundHalfEven (u i * g i)) (lo i)) (hi i))).setWidth 8).signExtend 32 :=
  rfl

theorem quantT_at (b : Fin 4) (r : Fin 1024) (e : Fin 4) (j : Fin 512) :
    quantT x w (ix4 b r e j)
      = ((Ideal.fptosi 8 (Ideal.liftRound Ideal.roundHalfEven
          (product x w b r e j * Ideal.div (Ideal.ofBits .f32 0x42FE0000#32) (peak x w b e j)))) : BitVec 8).signExtend 32 := by
  unfold quantT
  rw [quant_at, down_at, gainT_at, accT_at, fill_at, fill_at, ← clip_rounded]
  rfl

theorem backT_at (b : Fin 4) (e : Fin 4) (j : Fin 512) :
    backT x w sa sb (ix4 b 0 e j)
      = peak x w b e j * Ideal.div (sa (ix1 0) * sb (ix1 0)) (Ideal.ofBits .f32 0x42FE0000#32) := by
  have h (u v : FVec Ideal S_ .f32) (i : S_.Idx) : Host.divf u v i = Ideal.div (u i) (v i) := rfl
  unfold backT
  rw [ValueIdx.mulf_apply, flat_at, h, peakT_at, scaleT_at]
  rfl

theorem sentT_at (b : Fin 4) (r : Fin 1024) (e : Fin 4) (j : Fin 512) :
    max (sentT x w sa sb (ix4 b r e j)) 0 = crossed (product x w b r e j) (peak x w b e j) (sa (ix1 0) * sb (ix1 0)) := by
  unfold sentT crossed
  rw [ValueIdx.mulf_apply, down_at, backT_at]
  have h : sitofp (F := Ideal) .f32 (quantT x w) (ix4 b r e j) = (((quantT x w (ix4 b r e j)).toInt : ℝ) : EReal) := rfl
  rw [h, quantT_at, widen_value]
  rfl

/-- The reference's result in blocks, at an entry. -/
theorem blocksT_at (b : Fin 4) (r : Fin 1024) (e : Fin 4) (j : Fin 512) :
    blocksT x w sa sb (ix4 b r e j) = resultAt x w (sa (ix1 0) * sb (ix1 0)) b r e j := by
  have h (c : IVec S4x1024x4x512 1) (u v z : FVec Ideal S4x1024x4x512 .f32) (i : S4x1024x4x512.Idx) :
      maximumf (select c u v) z i = max (if c i = 1#1 then u i else v i) (z i) := rfl
  have hc : cmpi .eq (iotaInDim S4x1024x4x512 32 0) (iotaInDim S4x1024x4x512 32 2) (ix4 b r e j)
      = BitVec.ofBool (BitVec.ofNat 32 b.val == BitVec.ofNat 32 e.val) := rfl
  have hz : (constant (F := Ideal) S_ .f32 0x00000000#32) ix0 = (0 : EReal) := Ideal.ofBits_zero_f32
  unfold blocksT resultAt
  rw [h, hc, fill_at, hz, ValueIdx.mulf_apply, fill_at, accT_at, scaleT_at]
  by_cases hbe : b = e
  · subst hbe
    simp [stayed]
  · have hw : ¬ (BitVec.ofNat 32 b.val = BitVec.ofNat 32 e.val) := by
      intro hw
      have := congrArg BitVec.toNat hw
      simp at this
      exact hbe (Fin.ext (by omega))
    have hb : (BitVec.ofNat 32 b.val == BitVec.ofNat 32 e.val) = false := by simpa using hw
    rw [hb, if_neg hbe, if_neg (by decide), sentT_at]

/-- The reference's result, at an entry. -/
theorem wholeT_at (b : Fin 4) (r : Fin 1024) (e : Fin 4) (j : Fin 512) :
    wholeT x w sa sb (ix2 (rowAt b r) (colAt e j)) = resultAt x w (sa (ix1 0) * sb (ix1 0)) b r e j := by
  have h (i : Fin 4096) (l : Fin 2048) : wholeT x w sa sb (ix2 i l)
      = blocksT x w sa sb (ix4 ⟨i.val / 1024, by omega⟩ ⟨i.val % 1024, by omega⟩ ⟨l.val / 512, by omega⟩ ⟨l.val % 512, by omega⟩) := by
    pointwise [wholeT]
  rw [h, ← blocksT_at]
  congr 2 <;> apply Fin.ext <;> simp only [rowAt, colAt] <;> omega

end Cert.ReferenceIdeal.Whole

end
-- ==== Proof.Tile.lean ====
module

public import proofs.«01_k».proof.Proof.Protocol
public import proofs.«01_k».proof.Proof.Whole

@[expose] public section

noncomputable section

/-!
  # What one device computes from one block of columns

  A device multiplies its row block `b` with a column block `e`. If it holds those blocks of the whole arrays, then each
  number it computes is the reference's of row block `b` and column block `e`.
-/

namespace Cert.KernelIdeal.Exchange

open Cert.KernelIdeal Cert.KernelIdeal.Gen
open Cert.ReferenceIdeal.Whole (rowAt colAt product peak crossed stayed)
open Idealize.ShloMosaic

section Steps

variable (xv : FVec Ideal S1024x4096 .f32) (wv : FVec Ideal S1x4096x512 .f32)

theorem prod_at (r : Fin 1024) (j : Fin 512) :
    k0_pay7 (F := Ideal) xv wv (ix2 r j) = ∑ k : Fin 4096, xv (ix2 r k) * wv (ix3 0 k j) := by
  pointwise [k0_pay7]

/-- One number per column repeated down the rows. -/
theorem rows_at (y : FVec Ideal S1x512 .f32) (r : Fin 1024) (j : Fin 512) :
    broadcastTo S1024x512 y broadcasts_S1x512_S1024x512 (ix2 r j) = y (ix2 0 j) := by
  pointwise []

/-- The greatest entry down a column, as one row. -/
theorem greatest_at (y : FVec Ideal S1024x512 .f32) (j : Fin 512) :
    shapeCast S1x512 (multiReduction .maximumf [0] S512 y 0xFF800000#32 reduces_S1024x512_S512 (.inl rfl) rfl) shapeCasts_S512_S1x512 (ix2 0 j)
      = Finset.fold max (Ideal.ofBits .f32 0xFF800000#32) (fun r => y (ix2 r j)) Finset.univ := by
  pointwise []

theorem got_at (q : IVec S1x1024x512 8) (sc : FVec Ideal S1x1x512 .f32) (r : Fin 1024) (j : Fin 512) :
    k0_pay18 (F := Ideal) q sc (ix2 r j)
      = max (FloatOps.sitofp (F := Ideal) .f32 (q (ix3 0 r j)) * sc (ix3 0 0 j)) 0 := by
  pointwise [k0_pay18]

theorem own_at (s : Ideal .f32) (r : Fin 1024) (j : Fin 512) :
    k0_pay17 (F := Ideal) s (k0_pay15 xv) (k0_pay16 wv) (constant S1024x512 .f32 0x00000000#32) (ix2 r j)
      = max ((∑ k : Fin 4096, xv (ix2 r k) * wv (ix3 0 k j)) * s) 0 := by
  pointwise [k0_pay15, k0_pay16, k0_pay17]

/-- A row given a leading axis of one. -/
theorem wrap_at (y : FVec Ideal S1x512 .f32) (j : Fin 512) :
    shapeCast S1x1x512 y shapeCasts_S1x512_S1x1x512 (ix3 0 0 j) = y (ix2 0 j) := by
  pointwise []

/-- A block given a leading axis of one. -/
theorem wrap_words_at (y : IVec S1024x512 8) (r : Fin 1024) (j : Fin 512) :
    shapeCast S1x1024x512 y shapeCasts_S1024x512_S1x1024x512 (ix3 0 r j) = y (ix2 r j) := by
  pointwise []

/-- Quantising, at an entry: `u` the product, `g` its gain. -/
theorem words_at (u g : FVec Ideal S1024x512 .f32) (i : S1024x512.Idx) :
    fptosi 8 (roundeven (mulf u g)) i
      = FloatOps.fptosi (F := Ideal) (φ := .f32) 8 (Ideal.liftRound Ideal.roundHalfEven (u i * g i)) := rfl

/-- One row divided by another. -/
theorem ratio_at (u v : FVec Ideal S1x512 .f32) (i : S1x512.Idx) : divf u v i = Ideal.div (u i) (v i) := rfl

end Steps

section Blocks

/-! `xv` is row block `b` of `x`, and `wv` is column block `e` of `w`. -/

variable {x : FVec Ideal Cert.ReferenceIdeal.S4096x4096 .f32} {w : FVec Ideal Cert.ReferenceIdeal.S4096x2048 .f32}
variable {xv : FVec Ideal S1024x4096 .f32} {wv : FVec Ideal S1x4096x512 .f32} {b e : Fin 4}
variable (hx : ∀ (r : Fin 1024) (k : Fin 4096), xv (ix2 r k) = x (ix2 (rowAt b r) k))
variable (hw : ∀ (k : Fin 4096) (j : Fin 512), wv (ix3 0 k j) = w (ix2 k (colAt e j)))

include hx hw

/-- The device's product is the reference's. -/
theorem prod_block (r : Fin 1024) (j : Fin 512) : k0_pay7 (F := Ideal) xv wv (ix2 r j) = product x w b r e j := by
  rw [prod_at, product]
  exact Finset.sum_congr rfl fun k _ => by rw [hx, hw]

/-- Its peaks are the reference's. -/
theorem peak_block (j : Fin 512) : k0_pay8 (F := Ideal) xv wv (ix2 0 j) = peak x w b e j := by
  unfold k0_pay8 peak
  rw [ValueIdx.maximumf_apply, greatest_at]
  have h (r : Fin 1024) : absf (k0_pay7 (F := Ideal) xv wv) (ix2 r j)
      = FloatOps.absf (F := Ideal) (φ := .f32) (product x w b r e j) := by
    rw [← prod_block hx hw]
    rfl
  simp only [h]
  rfl

/-- The integers it sends are the reference's quantised entries. -/
theorem words_block (r : Fin 1024) (j : Fin 512) :
    k0_pay9 (F := Ideal) xv wv (ix3 0 r j)
      = FloatOps.fptosi (F := Ideal) (φ := .f32) 8 (Ideal.liftRound Ideal.roundHalfEven
          (product x w b r e j * Ideal.div (Ideal.ofBits .f32 0x42FE0000#32) (peak x w b e j))) := by
  unfold k0_pay9
  rw [wrap_words_at, words_at, rows_at, ratio_at, peak_block hx hw, prod_block hx hw]
  rfl

/-- The factors it sends with them are the reference's. -/
theorem factors_block (s : EReal) (j : Fin 512) :
    k0_pay10 (F := Ideal) s xv wv (ix3 0 0 j)
      = peak x w b e j * Ideal.div s (Ideal.ofBits .f32 0x42FE0000#32) := by
  unfold k0_pay10
  rw [wrap_at, ValueIdx.mulf_apply, peak_block hx hw]
  rfl

/-- What the receiver makes of the two is the reference's entry of a block that crosses. -/
theorem crossed_block (s : EReal) (r : Fin 1024) (j : Fin 512) :
    k0_pay18 (F := Ideal) (k0_pay9 (F := Ideal) xv wv) (k0_pay10 (F := Ideal) s xv wv) (ix2 r j)
      = crossed (product x w b r e j) (peak x w b e j) s := by
  rw [got_at, words_block hx hw, factors_block hx hw]
  rfl

/-- What a device keeps is the reference's entry of a block that stays. -/
theorem stayed_block (s : EReal) (r : Fin 1024) (j : Fin 512) :
    k0_pay17 (F := Ideal) s (k0_pay15 xv) (k0_pay16 wv) (constant S1024x512 .f32 0x00000000#32) (ix2 r j)
      = stayed (product x w b r e j) s := by
  rw [own_at, ← prod_at, prod_block hx hw, stayed]

end Blocks

end Cert.KernelIdeal.Exchange

end
-- ==== Proof.Result.lean ====
/-
# The value equation

Device `c` of the kernel makes column block `c` of the result: the row blocks that arrived from the other devices, each
quantised where it was computed, and its own. Entry by entry this is the reference's result.
-/
module

public import proofs.«01_k».proof.Proof.Finals
public import proofs.«01_k».proof.Proof.Tile
public import Idealize.ShloMosaic.Lib.Layout

@[expose] public section

noncomputable section

namespace Cert.KernelIdeal.Exchange

open Cert.KernelIdeal Cert.KernelIdeal.Gen Cert.Slots
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

open Cert.ReferenceIdeal.Whole (rowAt colAt product peak crossed stayed resultAt wholeT wholeT_at)

/-- The columns of `w` that step `r` of device `c` reads, as its weight slot holds them. -/
theorem wIn_at (c : Dev nD) (r e : Fin 4) (he : (c.val + r.val + 1) % 4 = e.val) (k : Fin 4096) (j : Fin 512) :
    wIn m ρ c r (ix3 0 k j) = m ((c : Thread nD τ).loc main_arg1) (ix2 k (colAt e j)) := by
  have hcast (y : S4096x512.Idx → Elt Ideal .f32) : shapeCast S1x4096x512 y casts_w (ix3 0 k j) = y (ix2 k j) := by
    pointwise []
  unfold wIn
  rw [hcast]
  show m ((c : Thread nD τ).loc main_arg1) ((Rect.unit (s := S4096x2048) (k0_off1 c (BitVec.ofNat 32 r.val)) S4096x512.size (k0_off1_inb c r)).emb (ix2 k j)) = _
  congr 1
  funext a
  apply Fin.ext
  show (k0_off1 c (BitVec.ofNat 32 r.val)) a + 1 * (ix2 k j a).val = _
  rw [Gen.k0_off1_eq, he]
  match a with
  | ⟨0, _⟩ => show 0 + 1 * k.val = k.val; omega
  | ⟨1, _⟩ => show 512 * e.val + 1 * j.val = e.val * 512 + j.val; omega

variable (X : FVec Ideal Cert.ReferenceIdeal.S4096x4096 .f32) (W : FVec Ideal Cert.ReferenceIdeal.S4096x2048 .f32)
variable (sa sb : FVec Ideal Cert.ReferenceIdeal.S1 .f32)

/-- Every device's arguments are its parts of the whole arrays: its row block of `x`, and all of the others. -/
def Parts : Prop := ∀ c : Dev nD,
  m ((c.tc : Thread nD τ).loc main_arg0) = Layout.block ⟨2, ![1024, 4096]⟩ ⟨2, ![4096, 4096]⟩ 0 4 c X
    ∧ m ((c.tc : Thread nD τ).loc main_arg1) = W
    ∧ m ((c.tc : Thread nD τ).loc main_arg2) = sa
    ∧ m ((c.tc : Thread nD τ).loc main_arg3) = sb

variable {m X W sa sb} (hp : Parts m X W sa sb)
include hp

/-- Its staged rows are row block `c`. -/
theorem xIn_at (c : Dev nD) (r : Fin 1024) (k : Fin 4096) : xIn m ρ c (ix2 r k) = X (ix2 (rowAt c r) k) := by
  rw [xIn_eq, (hp c).1, Layout.block_apply]
  congr 1
  funext a
  apply Fin.ext
  match a with
  | ⟨0, _⟩ => rfl
  | ⟨1, _⟩ => rfl

/-- Its scale is the product of the two. -/
theorem scale_at (c : Dev nD) : scale m ρ c = sa (ix1 0) * sb (ix1 0) := by
  unfold scale
  rw [aIn_eq, bIn_eq, (hp c).2.2.1, (hp c).2.2.2]
  have h : first = ix1 0 := funext fun a => Fin.ext (by fin_cases a; rfl)
  rw [h]
  rfl

/-- What device `c` makes of step `t`'s arrival is the row block of the device it came from. -/
theorem gotPart_at (c : Dev nD) (t : Fin 3) (r : Fin 1024) (j : Fin 512) :
    gotPart m ρ c t (ix2 r j)
      = crossed (product X W (behind t c) r c j) (peak X W (behind t c) c j) (sa (ix1 0) * sb (ix1 0)) := by
  unfold gotPart qOut sOut
  rw [scale_at ρ hp]
  refine crossed_block (xIn_at ρ hp (behind t c)) (fun k j => ?_) _ r j
  rw [wIn_at m ρ (behind t c) t.castSucc c (by revert t c; decide), (hp (behind t c)).2.1]

/-- What it keeps is its own row block. -/
theorem ownPart_at (c : Dev nD) (r : Fin 1024) (j : Fin 512) :
    ownPart m ρ c (ix2 r j) = stayed (product X W c r c j) (sa (ix1 0) * sb (ix1 0)) := by
  unfold ownPart
  rw [scale_at ρ hp]
  refine stayed_block (xIn_at ρ hp c) (fun k j => ?_) _ r j
  rw [wIn_at m ρ c 3 c (by revert c; decide), (hp c).2.1]

omit hp in
/-- Every index of the result is a row of some row block, and a column; -/
theorem split_index (i : S4096x512.Idx) : ∃ (b : Fin 4) (r : Fin 1024) (j : Fin 512), i = ix2 (rowAt b r) j := by
  have h0 : (i 0).val < 4096 := (i 0).isLt
  refine ⟨⟨(i 0).val / 1024, by omega⟩, ⟨(i 0).val % 1024, by omega⟩, ⟨(i 1).val, (i 1).isLt⟩, ?_⟩
  funext a
  apply Fin.ext
  match a with
  | ⟨0, _⟩ => show (i 0).val = (i 0).val / 1024 * 1024 + (i 0).val % 1024; omega
  | ⟨1, _⟩ => rfl

omit hp in
/-- there it lies in that block, -/
theorem blockOf_at (b : Fin 4) (r : Fin 1024) (j : Fin 512) : blockOf (ix2 (rowAt b r) j) = b :=
  Fin.ext (show (b.val * 1024 + r.val) / 1024 = b.val by omega)

omit hp in
/-- at that row and column. -/
theorem within_at (b : Fin 4) (r : Fin 1024) (j : Fin 512) : within (ix2 (rowAt b r) j) = ix2 r j := by
  funext a
  apply Fin.ext
  match a with
  | ⟨0, _⟩ => show (b.val * 1024 + r.val) % 1024 = r.val; omega
  | ⟨1, _⟩ => rfl

omit hp in
/-- A device is not one of those behind it, -/
theorem behind_ne (t : Fin 3) (c : Dev nD) : behind t c ≠ c := by revert t c; decide

omit hp in
/-- and there is no other. -/
theorem behind_or_self (b : Fin 4) (c : Dev nD) (h2 : b ≠ behind 2 c) (h1 : b ≠ behind 1 c) (h0 : b ≠ behind 0 c) : b = c := by
  revert b c
  decide

/-- Its result, row block by row block, is the reference's column block `c`. -/
theorem outAt_at (c : Dev nD) (b : Fin 4) (r : Fin 1024) (j : Fin 512) :
    outAt m ρ c (ix2 (rowAt b r) j) = resultAt X W (sa (ix1 0) * sb (ix1 0)) b r c j := by
  unfold outAt resultAt
  rw [blockOf_at, within_at]
  by_cases h2 : b = behind 2 c
  · rw [if_pos h2, if_neg (h2 ▸ behind_ne 2 c), h2]
    exact gotPart_at ρ hp c 2 r j
  by_cases h1 : b = behind 1 c
  · rw [if_neg h2, if_pos h1, if_neg (h1 ▸ behind_ne 1 c), h1]
    exact gotPart_at ρ hp c 1 r j
  by_cases h0 : b = behind 0 c
  · rw [if_neg h2, if_neg h1, if_pos h0, if_neg (h0 ▸ behind_ne 0 c), h0]
    exact gotPart_at ρ hp c 0 r j
  have he := behind_or_self b c h2 h1 h0
  rw [if_neg h2, if_neg h1, if_neg h0, if_pos he, he]
  exact ownPart_at ρ hp c r j

/-- So it is block `c`, along the columns, of the reference's result. -/
theorem outAt_block (c : Dev nD) :
    outAt m ρ c = Layout.block ⟨2, ![4096, 512]⟩ ⟨2, ![4096, 2048]⟩ 1 4 c (wholeT X W sa sb) := by
  funext i
  obtain ⟨b, r, j, rfl⟩ := split_index i
  refine (outAt_at ρ hp c b r j).trans ((wholeT_at X W sa sb b r c j).symm.trans ?_)
  refine congrArg (wholeT X W sa sb) ?_
  funext a
  apply Fin.ext
  match a with
  | ⟨0, _⟩ => rfl
  | ⟨1, _⟩ => rfl

end Cert.KernelIdeal.Exchange

end
-- ==== Proof.lean ====
module

public import proofs.«01_k».proof.Proof.RefRun
public import proofs.«01_k».proof.Proof.BitsFinals
public import proofs.«01_k».proof.Proof.Result
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem

/-- The kernel runs at machine floats: its arguments end unchanged and every counter at zero. -/
theorem kernel_runs : Cert.quiescent_Kernel (hKernel := Cert.Kernel.Gen.facts) := fun m g _ =>
  (θ_run _ _ _).mono (fun _ h => ⟨fun c => (h.1 c).2, h.2⟩) (Cert.Kernel.Exchange.run_arrays (F := Bits) m g)

/-- The same over the extended reals. -/
theorem ideal_runs : Cert.quiescent_KernelIdeal (hKernelIdeal := Cert.KernelIdeal.Gen.facts) := fun m g _ =>
  (θ_run _ _ _).mono (fun _ h => ⟨fun c => (h.1 c).2, h.2⟩) (Cert.KernelIdeal.Exchange.run_arrays (F := Ideal) m g)

/-- The reference runs: its arguments end unchanged, and it has no counters. -/
theorem reference_runs : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Whole.run_whole m g)

/-- Every device's result is its column block of the reference's result. -/
theorem value : Cert.algebraic_KernelIdeal_ReferenceIdeal (hKernelIdeal := Cert.KernelIdeal.Gen.facts)
    (hReferenceIdeal := Cert.ReferenceIdeal.Gen.facts) := by
  intro m g m' g' _ hp
  refine ⟨_, (θ_run _ _ _).mono (fun r h c => ⟨(h.1 c).1.trans ?_, (h.1 c).2⟩) (Cert.KernelIdeal.Exchange.run_arrays (F := Ideal) m g),
    (θ_run _ _ _).mono (fun r h => h 0) (Cert.ReferenceIdeal.Whole.run_whole m' g')⟩
  exact Cert.KernelIdeal.Exchange.outAt_block g hp c

/-- All the claims. -/
theorem claim : Cert.Claim :=
  ⟨Cert.Kernel.Gen.facts, Cert.KernelIdeal.Gen.facts, Cert.ReferenceIdeal.Gen.facts,
    kernel_runs, ideal_runs, reference_runs, trivial, value⟩

end Cert.Proof

end
